-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S2x2048x1024 : Shape := ⟨3, ![2, 2048, 1024]⟩
abbrev S96x1024 : Shape := ⟨2, ![96, 1024]⟩
abbrev S1024x64 : Shape := ⟨2, ![1024, 64]⟩
abbrev S1024 : Shape := ⟨1, ![1024]⟩
abbrev S1024x16 : Shape := ⟨2, ![1024, 16]⟩
abbrev S16 : Shape := ⟨1, ![16]⟩
abbrev S_ : Shape := ⟨0, ![]⟩
abbrev S1x16 : Shape := ⟨2, ![1, 16]⟩
abbrev S1x1x1x16 : Shape := ⟨4, ![1, 1, 1, 16]⟩
abbrev S1024x1x1x16 : Shape := ⟨4, ![1024, 1, 1, 16]⟩
abbrev S2x2048x96 : Shape := ⟨3, ![2, 2048, 96]⟩
abbrev S2x2048x64 : Shape := ⟨3, ![2, 2048, 64]⟩
abbrev S1x1x1024 : Shape := ⟨3, ![1, 1, 1024]⟩

class Facts : Prop where
  bcast_S_S16 : S_.BroadcastsInDim S16 (![] : Fin 0 → Fin S16.rank)
  bcast_S16_S1x16_1 : S16.BroadcastsInDim S1x16 (![1] : Fin 1 → Fin S1x16.rank)
  shapeCasts_S1x16_S1x1x1x16 : S1x16.ShapeCasts S1x1x1x16
  bcast_S1x1x1x16_S1024x1x1x16_0_1_2_3 : S1x1x1x16.BroadcastsInDim S1024x1x1x16 (![0, 1, 2, 3] : Fin 4 → Fin S1024x1x1x16.rank)
  shapeCasts_S1024x1x1x16_S1024x16 : S1024x1x1x16.ShapeCasts S1024x16
  slices_S2x2048x96_S2x2048x64_0_0_0 : S2x2048x96.Slices ![0, 0, 0] S2x2048x64
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  bcast_S_S2x2048x1024 : S_.BroadcastsInDim S2x2048x1024 (![] : Fin 0 → Fin S2x2048x1024.rank)
  dot_S2x2048x1024_S96x1024_S2x2048x96_2_1_01_0_n_n_wf : DotDims.WF S2x2048x1024 S96x1024 S2x2048x96 [2] [1] [0, 1] [0] [] []
  dot_S2x2048x64_S1024x64_S2x2048x1024_2_1_01_0_n_n_wf : DotDims.WF S2x2048x64 S1024x64 S2x2048x1024 [2] [1] [0, 1] [0] [] []

variable [Facts]

def dot_S2x2048x1024_S96x1024_S2x2048x96_2_1_01_0_n_n : DotDims S2x2048x1024 S96x1024 S2x2048x96 where
  lhsContracting := [2]
  rhsContracting := [1]
  lhsNonContracting := [0, 1]
  rhsNonContracting := [0]
  lhsBatch := []
  rhsBatch := []
  wf := dot_S2x2048x1024_S96x1024_S2x2048x96_2_1_01_0_n_n_wf
def dot_S2x2048x64_S1024x64_S2x2048x1024_2_1_01_0_n_n : DotDims S2x2048x64 S1024x64 S2x2048x1024 where
  lhsContracting := [2]
  rhsContracting := [1]
  lhsNonContracting := [0, 1]
  rhsNonContracting := [0]
  lhsBatch := []
  rhsBatch := []
  wf := dot_S2x2048x64_S1024x64_S2x2048x1024_2_1_01_0_n_n_wf
def fn {F : FTy → Type} [FloatOps F] (main_arg0 : FVec F S2x2048x1024 .f32) (main_arg1 : FVec F S96x1024 .f32) (main_arg2 : FVec F S1024x64 .f32) (main_arg3 : FVec F S1024 .f32) (main_arg4 : FVec F S1024x16 .f32) (main_arg5 : FVec F S1024 .f32) : IVec S1024x16 1 × IVec S2x2048x1024 1 :=
  let main_v0 : FVec F S16 .f32 := sitofp .f32 (iotaInDim S16 32 0)
  let main_cst : FVec F S_ .f32 := constant S_ .f32 0x3F800000#32
  let main_v1 : FVec F S16 .f32 := broadcastInDim S16 ![] bcast_S_S16 main_cst
  let main_v2 : FVec F S16 .f32 := addf main_v1 main_v0
  let main_v3 : FVec F S1x16 .f32 := broadcastInDim S1x16 ![1] bcast_S16_S1x16_1 main_v2
  let main_v4 : FVec F S1x1x1x16 .f32 := shapeCast S1x1x1x16 main_v3 shapeCasts_S1x16_S1x1x1x16
  let main_v5 : FVec F S1024x1x1x16 .f32 := broadcastInDim S1024x1x1x16 ![0, 1, 2, 3] bcast_S1x1x1x16_S1024x1x1x16_0_1_2_3 main_v4
  let main_v6 : FVec F S1024x16 .f32 := shapeCast S1024x16 main_v5 shapeCasts_S1024x1x1x16_S1024x16
  let main_v7 : FVec F S1024x16 .f32 := Host.log main_v6
  let main_v8 : FVec F S2x2048x96 .f32 := (fun l r => Host.dotGeneral dot_S2x2048x1024_S96x1024_S2x2048x96_2_1_01_0_n_n none l r) main_arg0 main_arg1
  let main_v9 : FVec F S2x2048x64 .f32 := (extractStridedSlice S2x2048x64 ![0, 0, 0] · slices_S2x2048x96_S2x2048x64_0_0_0) main_v8
  let main_v10 : FVec F S2x2048x1024 .f32 := (fun l r => Host.dotGeneral dot_S2x2048x64_S1024x64_S2x2048x1024_2_1_01_0_n_n none l r) main_v9 main_arg2
  let main_v11 : FVec F S1x1x1024 .f32 := broadcastInDim S1x1x1024 ![2] bcast_S1024_S1x1x1024_2 main_arg3
  let main_v12 : FVec F S2x2048x1024 .f32 := broadcastInDim S2x2048x1024 ![0, 1, 2] bcast_S1x1x1024_S2x2048x1024_0_1_2 main_v11
  let main_v13 : FVec F S2x2048x1024 .f32 := addf main_v10 main_v12
  let main_v14 : IVec S1024x16 1 := cmpf .oeq main_arg4 main_v7
  let main_cst_0 : FVec F S_ .f32 := constant S_ .f32 0x40000000#32
  let main_v15 : FVec F S_ .f32 := Host.log main_cst_0
  let main_cst_1 : FVec F S_ .f32 := constant S_ .f32 0x41F00000#32
  let main_v16 : FVec F S_ .f32 := mulf main_cst_1 main_v15
  let main_v17 : FVec F S2x2048x1024 .f32 := broadcastInDim S2x2048x1024 ![] bcast_S_S2x2048x1024 main_v16
  let main_v18 : IVec S2x2048x1024 1 := cmpf .ole main_v13 main_v17
  (main_v14, main_v18)
-- ==== Kernel.lean ====
abbrev S2x2048x1024 : Shape := ⟨3, ![2, 2048, 1024]⟩
abbrev S96x1024 : Shape := ⟨2, ![96, 1024]⟩
abbrev S1024x64 : Shape := ⟨2, ![1024, 64]⟩
abbrev S1024 : Shape := ⟨1, ![1024]⟩
abbrev S1024x16 : Shape := ⟨2, ![1024, 16]⟩
abbrev S1x1024 : Shape := ⟨2, ![1, 1024]⟩
abbrev S1x256x1024 : Shape := ⟨3, ![1, 256, 1024]⟩
abbrev S256x16x1024 : Shape := ⟨3, ![256, 16, 1024]⟩
abbrev S16x1024 : Shape := ⟨2, ![16, 1024]⟩
abbrev S256x1024 : Shape := ⟨2, ![256, 1024]⟩
abbrev S256x96 : Shape := ⟨2, ![256, 96]⟩
abbrev S256x64 : Shape := ⟨2, ![256, 64]⟩
abbrev S256x16 : Shape := ⟨2, ![256, 16]⟩
abbrev S1x16 : Shape := ⟨2, ![1, 16]⟩
abbrev S16 : Shape := ⟨1, ![16]⟩
abbrev S1x16x1 : Shape := ⟨3, ![1, 16, 1]⟩
abbrev S32x1024 : Shape := ⟨2, ![32, 1024]⟩
abbrev S32x1x1024 : Shape := ⟨3, ![32, 1, 1024]⟩
abbrev S32x16x1024 : Shape := ⟨3, ![32, 16, 1024]⟩
abbrev S32x16 : Shape := ⟨2, ![32, 16]⟩
abbrev S32x16x1 : Shape := ⟨3, ![32, 16, 1]⟩
abbrev S1x16x1024 : Shape := ⟨3, ![1, 16, 1024]⟩
abbrev S1x32x1024 : Shape := ⟨3, ![1, 32, 1024]⟩

abbrev nBuf : Space → Nat
  | .hbm => 9
  | .vmem => 11
  | .smem => 0
  | _ => 0

abbrev bufTy : (tb : Table) → Fin (tcTables nBuf tb) → BufTy
  | .hbm, ⟨0, _⟩ => ⟨S2x2048x1024, .f32⟩
  | .hbm, ⟨1, _⟩ => ⟨S96x1024, .f32⟩
  | .hbm, ⟨2, _⟩ => ⟨S1024x64, .f32⟩
  | .hbm, ⟨3, _⟩ => ⟨S1024, .f32⟩
  | .hbm, ⟨4, _⟩ => ⟨S1024x16, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S2x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S96x1024, .f32⟩
  | .local _ .vmem, ⟨3, _⟩ => ⟨S1024x64, .f32⟩
  | .local _ .vmem, ⟨4, _⟩ => ⟨S1x1024, .f32⟩
  | .local _ .vmem, ⟨5, _⟩ => ⟨S1x1024, .f32⟩
  | .local _ .vmem, ⟨6, _⟩ => ⟨S1x256x1024, .f32⟩
  | .local _ .vmem, ⟨7, _⟩ => ⟨S1x256x1024, .f32⟩
  | .local _ .vmem, ⟨8, _⟩ => ⟨S256x16x1024, .f32⟩
  | .local _ .vmem, ⟨9, _⟩ => ⟨S256x16x1024, .f32⟩
  | .local _ .vmem, ⟨10, _⟩ => ⟨S16x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_59 : BitVec 32 := 0#32
  let c256_i32 : BitVec 32 := 256#32
  let v191 : BitVec 32 := Scalar.addi c0_i32_59 c256_i32
  let c1_i32_60 : BitVec 32 := 1#32
  ⟨c0_i32_59, v191, c1_i32_60⟩
def k0_off1 (k0_t1 : Fin k0_t1_loop.trips) : Fin 3 → Nat :=
  let c0_i32_59 : BitVec 32 := 0#32
  let c1_i32_60 : BitVec 32 := 1#32
  let arg11 : BitVec 32 := Scf.iv c0_i32_59 c1_i32_60 k0_t1
  let v316 : Index := Scalar.indexCast arg11
  let c0_136 : Index := 0#32
  let c0_137 : Index := 0#32
  ![v316.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S96x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | _ => none
-- ==== ReferenceIdeal.lean ====
abbrev S2x2048x1024 : Shape := ⟨3, ![2, 2048, 1024]⟩
abbrev S96x1024 : Shape := ⟨2, ![96, 1024]⟩
abbrev S1024x64 : Shape := ⟨2, ![1024, 64]⟩
abbrev S1024 : Shape := ⟨1, ![1024]⟩
abbrev S1024x16 : Shape := ⟨2, ![1024, 16]⟩
abbrev S2x2048x96 : Shape := ⟨3, ![2, 2048, 96]⟩
abbrev S2x2048x64 : Shape := ⟨3, ![2, 2048, 64]⟩
abbrev S2x2048x16 : Shape := ⟨3, ![2, 2048, 16]⟩
abbrev S1x1x1024 : Shape := ⟨3, ![1, 1, 1024]⟩
abbrev S_ : Shape := ⟨0, ![]⟩
abbrev S2x2048x1024x1 : Shape := ⟨4, ![2, 2048, 1024, 1]⟩
abbrev S1x1x1024x16 : Shape := ⟨4, ![1, 1, 1024, 16]⟩
abbrev S2x2048x1024x16 : Shape := ⟨4, ![2, 2048, 1024, 16]⟩
abbrev S2x2048x1x16 : Shape := ⟨4, ![2, 2048, 1, 16]⟩
abbrev S2048x2x1024x16 : Shape := ⟨4, ![2048, 2, 1024, 16]⟩
abbrev S2048x2x16 : Shape := ⟨3, ![2048, 2, 16]⟩
abbrev S2x1024x16 : Shape := ⟨3, ![2, 1024, 16]⟩
abbrev S2048x2x1024 : Shape := ⟨3, ![2048, 2, 1024]⟩
abbrev S1x2x1024x16 : Shape := ⟨4, ![1, 2, 1024, 16]⟩
abbrev S1x2x16 : Shape := ⟨3, ![1, 2, 16]⟩
abbrev S2x16 : Shape := ⟨2, ![2, 16]⟩
abbrev S2x1024 : Shape := ⟨2, ![2, 1024]⟩
abbrev S1x2x1024 : Shape := ⟨3, ![1, 2, 1024]⟩

abbrev nBuf : Space → Nat
  | .hbm => 88
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S96x1024, .f32⟩
  | .hbm, ⟨2, _⟩ => ⟨S1024x64, .f32⟩
  | .hbm, ⟨3, _⟩ => ⟨S1024, .f32⟩
  | .hbm, ⟨4, _⟩ => ⟨S1024x16, .f32⟩
  | .hbm, ⟨5, _⟩ => ⟨S1024, .f32⟩
  | .hbm, ⟨6, _⟩ => ⟨S2x2048x96, .f32⟩
  | .hbm, ⟨7, _⟩ => ⟨S2x2048x64, .f32⟩
  | .hbm, ⟨8, _⟩ => ⟨S2x2048x16, .f32⟩
  | .hbm, ⟨9, _⟩ => ⟨S2x2048x16, .f32⟩
  | .hbm, ⟨10, _⟩ => ⟨S2x2048x1024, .f32⟩
  | .hbm, ⟨11, _⟩ => ⟨S1x1x1024, .f32⟩
  | .hbm, ⟨12, _⟩ => ⟨S2x2048x1024, .f32⟩
  | .hbm, ⟨13, _⟩ => ⟨S2x2048x1024, .f32⟩
  | .hbm, ⟨14, _⟩ => ⟨S_, .f32⟩
  | .hbm, ⟨15, _⟩ => ⟨S2x2048x1024, .f32⟩
  | .hbm, ⟨16, _⟩ => ⟨S2x2048x1024, .f32⟩
  | .hbm, ⟨17, _⟩ => ⟨S2x2048x1024, .f32⟩
  | .hbm, ⟨18, _⟩ => ⟨S2x2048x1024, .f32⟩
  | .hbm, ⟨19, _⟩ => ⟨S2x2048x1024, .i1⟩
  | .hbm, ⟨20, _⟩ => ⟨S2x2048x1024, .f32⟩
  | .hbm, ⟨21, _⟩ => ⟨S2x2048x1024, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S2x2048x1024, .f32⟩
  | .hbm, ⟨26, _⟩ => ⟨S2x2048x1024, .f32⟩
  | .hbm, ⟨27, _⟩ => ⟨S2x2048x1024, .f32⟩
  | .hbm, ⟨28, _⟩ => ⟨S1024x16, .f32⟩
  | .hbm, ⟨29, _⟩ => ⟨S1024x16, .f32⟩
  | .hbm, ⟨30, _⟩ => ⟨S2x2048x1024x1, .f32⟩
  | .hbm, ⟨31, _⟩ => ⟨S1x1x1024x16, .f32⟩
  | .hbm, ⟨32, _⟩ => ⟨S2x2048x1024x16, .f32⟩
  | .hbm, ⟨33, _⟩ => ⟨S2x2048x1024x16, .f32⟩
  | .hbm, ⟨34, _⟩ => ⟨S2x2048x1024x16, .f32⟩
  | .hbm, ⟨35, _⟩ => ⟨S2x2048x1024x16, .f32⟩
  | .hbm, ⟨36, _⟩ => ⟨S2x2048x1024x1, .f32⟩
  | .hbm, ⟨37, _⟩ => ⟨S2x2048x1x16, .f32⟩
  | .hbm, ⟨38, _⟩ => ⟨S2x2048x1024x16, .f32⟩
  | .hbm, ⟨39, _⟩ => ⟨S2x2048x1024x16, .f32⟩
  | .hbm, ⟨40, _⟩ => ⟨S2x2048x1024x16, .f32⟩
  | .hbm, ⟨41, _⟩ => ⟨S2x2048x1024x1, .f32⟩
  | .hbm, ⟨42, _⟩ => ⟨S2x2048x1024x16, .f32⟩
  | .hbm, ⟨43, _⟩ => ⟨S2x2048x1024x16, .f32⟩
  | .hbm, ⟨44, _⟩ => ⟨S2048x2x1024x16, .f32⟩
  | .hbm, ⟨45, _⟩ => ⟨S2048x2x1024x16, .f32⟩
  | .hbm, ⟨46, _⟩ => ⟨S2048x2x16, .f32⟩
  | .hbm, ⟨47, _⟩ => ⟨S_, .f32⟩
  | .hbm, ⟨48, _⟩ => ⟨S2x1024x16, .f32⟩
  | .hbm, ⟨49, _⟩ => ⟨S_, .f32⟩
  | .hbm, ⟨50, _⟩ => ⟨S2048x2x1024, .f32⟩
  | .hbm, ⟨51, _⟩ => ⟨S_, .i32⟩
  | .hbm, ⟨52, _⟩ => ⟨S2048x2x1024x16, .f32⟩
  | .hbm, ⟨53, _⟩ => ⟨S2048x2x1024x16, .f32⟩
  | .hbm, ⟨54, _⟩ => ⟨S2048x2x16, .f32⟩
  | .hbm, ⟨55, _⟩ => ⟨S_, .i32⟩
  | .hbm, ⟨56, _⟩ => ⟨S2x1024x16, .f32⟩
  | .hbm, ⟨57, _⟩ => ⟨S2048x2x1024, .f32⟩
  | .hbm, ⟨58, _⟩ => ⟨S_, .i32⟩
  | .hbm, ⟨59, _⟩ => ⟨S_, .i1⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S1x2x1024x16, .f32⟩
  | .hbm, ⟨64, _⟩ => ⟨S2x1024x16, .f32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S1x2x1024x16, .f32⟩
  | .hbm, ⟨69, _⟩ => ⟨S2x1024x16, .f32⟩
  | .hbm, ⟨70, _⟩ => ⟨S_, .i32⟩
  | .hbm, ⟨71, _⟩ => ⟨S_, .i32⟩
  | .hbm, ⟨72, _⟩ => ⟨S1x2x16, .f32⟩
  | .hbm, ⟨73, _⟩ => ⟨S2x16, .f32⟩
  | .hbm, ⟨74, _⟩ => ⟨S2x1024x16, .f32⟩
  | .hbm, ⟨75, _⟩ => ⟨S2x1024x16, .f32⟩
  | .hbm, ⟨76, _⟩ => ⟨S2x1024, .f32⟩
  | .hbm, ⟨77, _⟩ => ⟨S1x2x1024, .f32⟩
  | .hbm, ⟨78, _⟩ => ⟨S_, .i32⟩
  | .hbm, ⟨79, _⟩ => ⟨S_, .i32⟩
  | .hbm, ⟨80, _⟩ => ⟨S2048x2x1024, .f32⟩
  | .hbm, ⟨81, _⟩ => ⟨S_, .i32⟩
  | .hbm, ⟨82, _⟩ => ⟨S_, .i32⟩
  | .hbm, ⟨83, _⟩ => ⟨S2x2048x1024, .f32⟩
  | .hbm, ⟨84, _⟩ => ⟨S1x1x1024, .f32⟩
  | .hbm, ⟨85, _⟩ => ⟨S2x2048x1024, .f32⟩
  | .hbm, ⟨86, _⟩ => ⟨S2x2048x1024, .f32⟩
  | .hbm, ⟨87, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst : Ref sig .tc := ⟨.hbm, 47, rfl⟩
abbrev main_v28 : Ref sig .tc := ⟨.hbm, 48, rfl⟩
abbrev main_cst_0 : Ref sig .tc := ⟨.hbm, 49, rfl⟩
abbrev main_v29 : Ref sig .tc := ⟨.hbm, 50, rfl⟩
abbrev main_c : Ref sig .tc := ⟨.hbm, 51, rfl⟩
abbrev main_v30_0 : Ref sig .tc := ⟨.hbm, 52, rfl⟩
abbrev main_v30_1 : Ref sig .tc := ⟨.hbm, 53, rfl⟩
abbrev main_v30_2 : Ref sig .tc := ⟨.hbm, 54, rfl⟩
abbrev main_v30_3 : Ref sig .tc := ⟨.hbm, 55, rfl⟩
abbrev main_v30_4 : Ref sig .tc := ⟨.hbm, 56, rfl⟩
abbrev main_v30_5 : Ref sig .tc := ⟨.hbm, 57, rfl⟩
abbrev main_while0c_c_6 : Ref sig .tc := ⟨.hbm, 58, rfl⟩
abbrev main_while0c_v36 : Ref sig .tc := ⟨.hbm, 59, rfl⟩
abbrev main_while0b_call1_c : Ref sig .tc := ⟨.hbm, 60, rfl⟩
abbrev main_while0b_call1_c_0 : Ref sig .tc := ⟨.hbm, 61, rfl⟩
abbrev main_while0b_call1_c_1 : Ref sig .tc := ⟨.hbm, 62, rfl⟩
abbrev main_while0b_call1_v0 : Ref sig .tc := ⟨.hbm, 63, rfl⟩
abbrev main_while0b_v36 : Ref sig .tc := ⟨.hbm, 64, rfl⟩
abbrev main_while0b_call2_c : Ref sig .tc := ⟨.hbm, 65, rfl⟩
abbrev main_while0b_call2_c_0 : Ref sig .tc := ⟨.hbm, 66, rfl⟩
abbrev main_while0b_call2_c_1 : Ref sig .tc := ⟨.hbm, 67, rfl⟩
abbrev main_while0b_call2_v0 : Ref sig .tc := ⟨.hbm, 68, rfl⟩
abbrev main_while0b_v37 : Ref sig .tc := ⟨.hbm, 69, rfl⟩
abbrev main_while0b_call3_c : Ref sig .tc := ⟨.hbm, 70, rfl⟩
abbrev main_while0b_call3_c_0 : Ref sig .tc := ⟨.hbm, 71, rfl⟩
abbrev main_while0b_call3_v0 : Ref sig .tc := ⟨.hbm, 72, rfl⟩
abbrev main_while0b_v38 : Ref sig .tc := ⟨.hbm, 73, rfl⟩
abbrev main_while0b_v39 : Ref sig .tc := ⟨.hbm, 74, rfl⟩
abbrev main_while0b_v40 : Ref sig .tc := ⟨.hbm, 75, rfl⟩
abbrev main_while0b_v41 : Ref sig .tc := ⟨.hbm, 76, rfl⟩
abbrev main_while0b_call4_v0 : Ref sig .tc := ⟨.hbm, 77, rfl⟩
abbrev main_while0b_call4_c : Ref sig .tc := ⟨.hbm, 78, rfl⟩
abbrev main_while0b_call4_c_0 : Ref sig .tc := ⟨.hbm, 79, rfl⟩
abbrev main_while0b_v42 : Ref sig .tc := ⟨.hbm, 80, rfl⟩
abbrev main_while0b_c_6 : Ref sig .tc := ⟨.hbm, 81, rfl⟩
abbrev main_while0b_v43 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩

abbrev nD : Nat := 1
abbrev τ : Topo := Topo.v7x

variable {F : FTy → Type} [FloatOps F]

abbrev main_while0_count : Scf.Loop 32 := ⟨0#32, 2048#32, 1#32⟩
-- ==== Proof.KernelFrame.lean ====
module

public import proofs.«01_k».proof.Proof.KernelRun
public import Idealize.ShloMosaic.Lib.Claim
public import proofs.«01_k».proof.Proof.Gen.Kernel.Frame
public import proofs.«01_k».proof.Proof.Gen.Kernel.Loops
public import proofs.«01_k».proof.Proof.Gen.Kernel.Skeleton

@[expose] public section

set_option maxRecDepth 16384

noncomputable section

namespace Cert.Proof.Kernel

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three scratch buffers as whole memrefs: two work buffers and the state carried along a row of points. -/
abbrev wA : Memref sig .tc .vmem S256x16x1024 .f32 := Memref.whole cc0_scratch0
abbrev wB : Memref sig .tc .vmem S256x16x1024 .f32 := Memref.whole cc0_scratch1
abbrev wH : Memref sig .tc .vmem S16x1024 .f32 := Memref.whole cc0_scratch2

/-- What the region hands every point: the three scratch buffers at some contents, and the generator register. -/
theorem rest_eq (c : Dev nD) :
    (Pipeline.ΦA spec0 c : sProp 𝕄)
      = iprop(iprop((∃ d, owns (c : Thread nD τ) wA fullShare d) ∗ (∃ d, owns (c : Thread nD τ) wB fullShare d) ∗ (∃ d, owns (c : Thread nD τ) wH fullShare d)) ∗ (∃ r, prngReg c r)) := by
  unfold Pipeline.ΦA; rw [scopedRest0_eq]; simp only [wA, wB, wH, owns_whole]; try rfl

/-- The output window, of which nothing is said here. -/
def forgets : Fin 6 → Bool := fun w => w.val == 5

/-- The proof data: the arrays as the region finds them, each input's buffer at its block after every point, the
    output's unnamed, every scratch buffer at anything throughout. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d

theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d

theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d

theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d

theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d

set_option maxHeartbeats 3200000 in
/-- The body at any point, from the inputs' buffers at their blocks and everything else at anything, hands the inputs'
    buffers back as they were: the run of whichever of its two cases the point is in. -/
theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare d))
    ⊢ wp frame (wpE (defs₀ (F := F)) Variants.none c none) Set.univ (bodyAt0 t) (fun _ =>
      iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t)
        ∗ owns (c : Thread nD τ) (st0_2 t) fullShare ((dats m 0 c).after 2 t)
        ∗ owns (c : Thread nD τ) (st0_3 t) fullShare ((dats m 0 c).after 3 t)
        ∗ owns (c : Thread nD τ) (st0_4 t) fullShare ((dats m 0 c).after 4 t)
        ∗ (∃ d, owns (c : Thread nD τ) (st0_5 t) fullShare d))) := by
  unfold bodyAt0
  simp only [before0, before1, before2, before3, before4]
  rw [show (dats m 0 c).owesAt () t.succ = (dats m 0 c).owesAt () t.castSucc from rfl,
    after0, after1, after2, after3, after4]
  rw [show (dats m 0 c).Φ t.castSucc = Pipeline.ΦA spec0 c from rfl, show (dats m 0 c).Φ t.succ = Pipeline.ΦA spec0 c from rfl, rest_eq]
  by_cases hc : first (grid0.coords t)
  · iintro ⟨⟨⟨⟨%d8, HA⟩, ⟨%d9, HB⟩, ⟨%dh, HH⟩⟩, Hg⟩, Ho, ⟨%e0, H0⟩, ⟨%e1, H1⟩, ⟨%e2, H2⟩, ⟨%e3, H3⟩, ⟨%e4, H4⟩, ⟨%e5, H5⟩⟩
    ihave ⟨%g8, -, HA⟩ := (show owns (c : Thread nD τ) wA fullShare d8 ⊢ iprop(∃ g, ⌜wA.view.read (Elt F) g = d8⌝ ∗ (wA.view.loc (c : Thread nD τ) ↦[wA.view.set]{fullShare} g)) from by unfold owns; exact .rfl) $$ HA
    ihave ⟨%g9, -, HB⟩ := (show owns (c : Thread nD τ) wB fullShare d9 ⊢ iprop(∃ g, ⌜wB.view.read (Elt F) g = d9⌝ ∗ (wB.view.loc (c : Thread nD τ) ↦[wB.view.set]{fullShare} g)) from by unfold owns; exact .rfl) $$ HB
    iapply ((runA c (grid0.coords t) _ _ _ _ _ _ _ _ _ _ _ _ wA _ wB _ wH _ hc (iblk m c 0 t) (iblk m c 1 t) (iblk m c 2 t) (iblk m c 3 t) (iblk m c 4 t) dh g8 g9).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HA]; · iexact HA
    isplitl [HB]; · iexact HB
    isplitl [HH]; · iexact HH
    iintro ⟨H0, H1, H2, H3, H4, ⟨%f5, H5⟩, HA, HB, ⟨%fh, HH⟩⟩
    isplitl [HA HB HH Hg]
    · isplitl [HA HB HH]
      · isplitl [HA]; · iexact HA
        isplitl [HB]; · iexact HB
        unfold owns; iexists _, _; isplitr; swap; · iexact HH
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    unfold owns; iexists _, _; isplitr; swap; · iexact H5
    ipureintro; rfl
  · iintro ⟨⟨⟨⟨%d8, HA⟩, ⟨%d9, HB⟩, ⟨%dh, HH⟩⟩, Hg⟩, Ho, ⟨%e0, H0⟩, ⟨%e1, H1⟩, ⟨%e2, H2⟩, ⟨%e3, H3⟩, ⟨%e4, H4⟩, ⟨%e5, H5⟩⟩
    ihave ⟨%g8, -, HA⟩ := (show owns (c : Thread nD τ) wA fullShare d8 ⊢ iprop(∃ g, ⌜wA.view.read (Elt F) g = d8⌝ ∗ (wA.view.loc (c : Thread nD τ) ↦[wA.view.set]{fullShare} g)) from by unfold owns; exact .rfl) $$ HA
    ihave ⟨%g9, -, HB⟩ := (show owns (c : Thread nD τ) wB fullShare d9 ⊢ iprop(∃ g, ⌜wB.view.read (Elt F) g = d9⌝ ∗ (wB.view.loc (c : Thread nD τ) ↦[wB.view.set]{fullShare} g)) from by unfold owns; exact .rfl) $$ HB
    iapply ((runB c (grid0.coords t) _ _ _ _ _ _ _ _ _ _ _ _ wA _ wB _ wH _ hc (iblk m c 0 t) (iblk m c 1 t) (iblk m c 2 t) (iblk m c 3 t) (iblk m c 4 t) dh g8 g9).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HA]; · iexact HA
    isplitl [HB]; · iexact HB
    isplitl [HH]; · iexact HH
    iintro ⟨H0, H1, H2, H3, H4, ⟨%f5, H5⟩, HA, HB, ⟨%fh, HH⟩⟩
    isplitl [HA HB HH Hg]
    · isplitl [HA HB HH]
      · isplitl [HA]; · iexact HA
        isplitl [HB]; · iexact HB
        unfold owns; iexists _, _; isplitr; swap; · iexact HH
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    unfold owns; iexists _, _; isplitr; swap; · iexact H5
    ipureintro; rfl

/-- The body table's row at a point's buffers is the body called there. -/
theorem row (t : Fin cfg0.N) : defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ forgets := fun t => by
  rw [bigSep_W0, bigSep_W0, row]
  exact triple_restated (sound_body m c t) rfl .rfl fun _ => .rfl

set_option backward.isDefEq.respectTransparency.types false in
/-- Every execution ends, the inputs' arrays are as the region found them, and every counter is zero. -/
theorem run_main : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_track_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The kernel's frame: every execution ends, the six arguments unchanged and every semaphore counter at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨(Pipeline.RDat.FramePost.arr_in h.1 c 0 rfl).trans ((A_eq m c 0).trans (V_main_arg0 m c)),
     (Pipeline.RDat.FramePost.arr_in h.1 c 1 rfl).trans ((A_eq m c 1).trans (V_main_arg1 m c)),
     (Pipeline.RDat.FramePost.arr_in h.1 c 2 rfl).trans ((A_eq m c 2).trans (V_main_arg2 m c)),
     ((h.1 c).2 main_arg3 (Pipeline.mem_restRefs_of main_arg3 (by decide) (by decide))).trans (V_main_arg3 m c),
     ((h.1 c).2 main_arg4 (Pipeline.mem_restRefs_of main_arg4 (by decide) (by decide))).trans (V_main_arg4 m c),
     ((h.1 c).2 main_arg5 (Pipeline.mem_restRefs_of main_arg5 (by decide) (by decide))).trans (V_main_arg5 m c)⟩, h.2⟩) (run_main m ρ)

end Cert.Proof.Kernel

end
-- ==== Proof.KernelIdealRun.lean ====
module

public import proofs.«01_k».proof.Proof.Gen.KernelIdeal.Frame
public import proofs.«01_k».proof.Proof.Gen.KernelIdeal.Loops
public import proofs.«01_k».proof.Proof.Gen.KernelIdeal.Skeleton

@[expose] public section

set_option maxRecDepth 16384

noncomputable section

namespace Cert.Proof.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition of the body's one branch: the point's second coordinate is 0. -/
abbrev first (i : grid0.Coords) : Prop := Scalar.cmpi .ne (Scalar.extui (Scalar.cmpi .eq (BitVec.ofNat 32 (i 1).val) 0#32)) 0#32 = 1#1

set_option maxHeartbeats 8000000 in
/-- The body on whole memrefs at a point whose second coordinate is 0 (the state is cleared): the pieces that its
    stores leave in the state's buffer and in the output's, with the proof that the body runs from the inputs at
    `x0 … x4`, the state at `h`, the two work buffers at `f8`, `f9` and the output's buffer at anything, to its return
    with the inputs as they were, those pieces written, and the work buffers at some contents. -/
noncomputable def runA (c : Dev nD) (i : grid0.Coords) (arg2 : Memref sig .tc .vmem S1x256x1024 .f32) (harg2 : arg2.IsWhole) (arg3 : Memref sig .tc .vmem S96x1024 .f32) (harg3 : arg3.IsWhole) (arg4 : Memref sig .tc .vmem S1024x64 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x256x1024 .f32) (harg7 : arg7.IsWhole) (arg8 : Memref sig .tc .vmem S256x16x1024 .f32) (harg8 : arg8.IsWhole) (arg9 : Memref sig .tc .vmem S256x16x1024 .f32) (harg9 : arg9.IsWhole) (arg10 : Memref sig .tc .vmem S16x1024 .f32) (harg10 : arg10.IsWhole) (hc : first i) (x0 : Vec F S1x256x1024 .f32) (x1 : Vec F S96x1024 .f32) (x2 : Vec F S1024x64 .f32) (x3 x4 : Vec F S1x1024 .f32) (h : Vec F S16x1024 .f32) (f8 : BufTy.Contents (Elt F) arg8.view.ty) (f9 : BufTy.Contents (Elt F) arg9.view.ty) :
    Σ' (LS : List (View.Piece (Elt F) S16x1024 .f32)), { LO : List (View.Piece (Elt F) S1x256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (arg8.view.loc (c : Thread nD τ) ↦[arg8.view.set]{fullShare} f8) ∗ (arg9.view.loc (c : Thread nD τ) ↦[arg9.view.set]{fullShare} f9) ∗ owns (c : Thread nD τ) arg10 fullShare h
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f LO) ∗ (∃ d, owns (c : Thread nD τ) arg8 fullShare d) ∗ (∃ d, owns (c : Thread nD τ) arg9 fullShare d) ∗ (∃ f, arg10.view.loc (c : Thread nD τ) ↦[arg10.view.set]{fullShare} arg10.view.writes (Elt F) f LS)) -∗ K ⟨⟩))
          ⊢ wp frame (wpE (defs₀ (F := F)) Variants.none c none) E (cc0_selective_ssm i arg2 harg2 arg3 harg3 arg4 harg4 arg5 harg5 arg6 harg6 arg7 harg7 arg8 harg8 arg9 harg9 arg10 harg10) K } := by
  refine ⟨?_, ?_, fun E K => ?run⟩
  case run =>
    simp only [cc0_selective_ssm_eq_skeleton]; unfold cc0_selective_ssm_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, H8, H9, ⟨%f10, %hf10, H10⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg10.eq_unread hf10
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H8]
    · iexists _, _; isplitr; swap; · iexact H8
      ipureintro; rfl
    isplitl [H9]
    · iexists _, _; isplitr; swap; · iexact H9
      ipureintro; rfl
    iexists _; iexact H10

set_option maxHeartbeats 8000000 in
/-- The body on whole memrefs at a point whose second coordinate is not 0 (the state goes on): the pieces that its
    stores leave in the state's buffer and in the output's, with the proof that the body runs from the inputs at
    `x0 … x4`, the state at `h`, the two work buffers at `f8`, `f9` and the output's buffer at anything, to its return
    with the inputs as they were, those pieces written, and the work buffers at some contents. -/
noncomputable def runB (c : Dev nD) (i : grid0.Coords) (arg2 : Memref sig .tc .vmem S1x256x1024 .f32) (harg2 : arg2.IsWhole) (arg3 : Memref sig .tc .vmem S96x1024 .f32) (harg3 : arg3.IsWhole) (arg4 : Memref sig .tc .vmem S1024x64 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x256x1024 .f32) (harg7 : arg7.IsWhole) (arg8 : Memref sig .tc .vmem S256x16x1024 .f32) (harg8 : arg8.IsWhole) (arg9 : Memref sig .tc .vmem S256x16x1024 .f32) (harg9 : arg9.IsWhole) (arg10 : Memref sig .tc .vmem S16x1024 .f32) (harg10 : arg10.IsWhole) (hc : ¬first i) (x0 : Vec F S1x256x1024 .f32) (x1 : Vec F S96x1024 .f32) (x2 : Vec F S1024x64 .f32) (x3 x4 : Vec F S1x1024 .f32) (h : Vec F S16x1024 .f32) (f8 : BufTy.Contents (Elt F) arg8.view.ty) (f9 : BufTy.Contents (Elt F) arg9.view.ty) :
    Σ' (LS : List (View.Piece (Elt F) S16x1024 .f32)), { LO : List (View.Piece (Elt F) S1x256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (arg8.view.loc (c : Thread nD τ) ↦[arg8.view.set]{fullShare} f8) ∗ (arg9.view.loc (c : Thread nD τ) ↦[arg9.view.set]{fullShare} f9) ∗ owns (c : Thread nD τ) arg10 fullShare h
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f LO) ∗ (∃ d, owns (c : Thread nD τ) arg8 fullShare d) ∗ (∃ d, owns (c : Thread nD τ) arg9 fullShare d) ∗ (∃ f, arg10.view.loc (c : Thread nD τ) ↦[arg10.view.set]{fullShare} arg10.view.writes (Elt F) f LS)) -∗ K ⟨⟩))
          ⊢ wp frame (wpE (defs₀ (F := F)) Variants.none c none) E (cc0_selective_ssm i arg2 harg2 arg3 harg3 arg4 harg4 arg5 harg5 arg6 harg6 arg7 harg7 arg8 harg8 arg9 harg9 arg10 harg10) K } := by
  refine ⟨?_, ?_, fun E K => ?run⟩
  case run =>
    simp only [cc0_selective_ssm_eq_skeleton]; unfold cc0_selective_ssm_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, H8, H9, ⟨%f10, %hf10, H10⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg10.eq_unread hf10
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H8]
    · iexists _, _; isplitr; swap; · iexact H8
      ipureintro; rfl
    isplitl [H9]
    · iexists _, _; isplitr; swap; · iexact H9
      ipureintro; rfl
    iexists _; iexact H10

end Cert.Proof.KernelIdeal

end
-- ==== Proof.KernelPay.lean ====
module

public import proofs.«01_k».proof.Proof.Gen.KernelIdeal.Skeleton
public import Idealize.ShloMosaic.PureOps.Ideal
public import Idealize.ShloMosaic.Lib.Pointwise
public import Idealize.ShloMosaic.Lib.Writes
public import Idealize.ShloMosaic.Lib.Pipeline.ValueKit

@[expose] public section

set_option maxRecDepth 16384

noncomputable section

namespace Cert.Proof.KernelIdeal

open Cert.KernelIdeal Cert.KernelIdeal.Gen
open Idealize.ShloMosaic

/-! # What one block's vector operations compute, at an index

A block of the kernel handles 256 rows in eight slabs of 32. Each slab's store is the slab of one function of the whole
block: `decay`, `drive` or `outs`. -/

/-- The decay factors of a block: `2` to the power `g(t, d) · (−n)`. -/
def decay (g : FVec Ideal S256x1024 .f32) : FVec Ideal S256x16x1024 .f32 :=
  fun y => FloatOps.exp2 (φ := .f32) (g (ix2 (y 0) (y 2)) * k0_pay7 (F := Ideal) (ix3 0 (y 1) 0))

/-- The driving terms of a block: `B(t, n) · u(t, d)`. -/
def drive (b : FVec Ideal S256x16 .f32) (u : FVec Ideal S256x1024 .f32) : FVec Ideal S256x16x1024 .f32 :=
  fun y => b (ix2 (y 0) (y 1)) * u (ix2 (y 0) (y 2))

/-- The results of a block: the sum over `n` of `C(t, n) · h(t, n, d)`, and `x(t, d) · w(d)`. -/
def outs (x : FVec Ideal S256x1024 .f32) (b : FVec Ideal S256x16 .f32) (h : FVec Ideal S256x16x1024 .f32) (w : Vec Ideal S1x1024 .f32) : FVec Ideal S1x256x1024 .f32 :=
  fun y => (∑ n : Fin 16, b (ix2 (y 1) n) * h (ix3 (y 1) n (y 2))) + x (ix2 (y 1) (y 2)) * w (ix2 0 (y 2))

/-- A slab of 32 rows of a stack of 256 holds, at an index, the stack's element that many rows further. -/
theorem slab_emb (o : ℕ) (inb) (ho : o + 32 ≤ 256) (r : Fin 32) (n : Fin 16) (d : Fin 1024) :
    (Rect.unit (s := S256x16x1024) ![o, 0, 0] S32x16x1024.size inb).emb (ix3 r n d) = ix3 ⟨o + r.val, by omega⟩ n d := by
  funext a
  apply Fin.ext
  rw [show (Rect.unit (s := S256x16x1024) ![o, 0, 0] S32x16x1024.size inb).emb (ix3 r n d) a = (Rect.unit (s := S256x16x1024) ![o, 0, 0] S32x16x1024.size inb).idx (ix3 r n d) a from rfl, Rect.idx_unit_val]
  fin_cases a <;> simp [ix3]

/-- A slab of 32 rows of the result block holds, at an index, the block's element that many rows further. -/
theorem rows_emb (o : ℕ) (inb) (ho : o + 32 ≤ 256) (z : Fin 1) (r : Fin 32) (d : Fin 1024) :
    (Rect.unit (s := S1x256x1024) ![0, o, 0] S1x32x1024.size inb).emb (ix3 z r d) = ix3 z ⟨o + r.val, by omega⟩ d := by
  funext a
  apply Fin.ext
  rw [show (Rect.unit (s := S1x256x1024) ![0, o, 0] S1x32x1024.size inb).emb (ix3 z r d) a = (Rect.unit (s := S1x256x1024) ![0, o, 0] S1x32x1024.size inb).idx (ix3 z r d) a from rfl, Rect.idx_unit_val]
  fin_cases a <;> simp [ix3]

variable (x0 : Vec Ideal S1x256x1024 .f32) (x1 : Vec Ideal S96x1024 .f32) (x2 : Vec Ideal S1024x64 .f32) (x3 : Vec Ideal S1x1024 .f32) (x4 : Vec Ideal S1x1024 .f32)

/-- The eight stores of the decay factors, the last first. -/
def decayPieces : List (View.Piece (Elt Ideal) S256x16x1024 .f32) :=
  [⟨Rect.unit ![224, 0, 0] S32x16x1024.size inb_S256x16x1024_S32x16x1024_224_0_0, k0_pay28 (k0_pay6 x0 x1 x2 x3) (k0_pay7 (F := Ideal))⟩,
    ⟨Rect.unit ![192, 0, 0] S32x16x1024.size inb_S256x16x1024_S32x16x1024_192_0_0, k0_pay25 (k0_pay6 x0 x1 x2 x3) (k0_pay7 (F := Ideal))⟩,
    ⟨Rect.unit ![160, 0, 0] S32x16x1024.size inb_S256x16x1024_S32x16x1024_160_0_0, k0_pay23 (k0_pay6 x0 x1 x2 x3) (k0_pay7 (F := Ideal))⟩,
    ⟨Rect.unit ![128, 0, 0] S32x16x1024.size inb_S256x16x1024_S32x16x1024_128_0_0, k0_pay19 (k0_pay6 x0 x1 x2 x3) (k0_pay7 (F := Ideal))⟩,
    ⟨Rect.unit ![96, 0, 0] S32x16x1024.size inb_S256x16x1024_S32x16x1024_96_0_0, k0_pay17 (k0_pay6 x0 x1 x2 x3) (k0_pay7 (F := Ideal))⟩,
    ⟨Rect.unit ![64, 0, 0] S32x16x1024.size inb_S256x16x1024_S32x16x1024_64_0_0, k0_pay15 (k0_pay14 (k0_pay6 x0 x1 x2 x3) (k0_pay7 (F := Ideal)))⟩,
    ⟨Rect.unit ![32, 0, 0] S32x16x1024.size inb_S256x16x1024_S32x16x1024_32_0_0, k0_pay12 (k0_pay6 x0 x1 x2 x3) (k0_pay7 (F := Ideal))⟩,
    ⟨Rect.unit ![0, 0, 0] S32x16x1024.size inb_S256x16x1024_S32x16x1024_0_0_0, k0_pay10 (k0_pay9 x0 x1 x2 x3)⟩]

/-- The eight stores of the driving terms, the last first. -/
def drivePieces : List (View.Piece (Elt Ideal) S256x16x1024 .f32) :=
  [⟨Rect.unit ![224, 0, 0] S32x16x1024.size inb_S256x16x1024_S32x16x1024_224_0_0, k0_pay29 (k0_pay4 x0 x1) (k0_pay8 x0 x1 x2 x3)⟩,
    ⟨Rect.unit ![192, 0, 0] S32x16x1024.size inb_S256x16x1024_S32x16x1024_192_0_0, k0_pay27 (k0_pay26 (k0_pay4 x0 x1) (k0_pay8 x0 x1 x2 x3))⟩,
    ⟨Rect.unit ![160, 0, 0] S32x16x1024.size inb_S256x16x1024_S32x16x1024_160_0_0, k0_pay24 (k0_pay4 x0 x1) (k0_pay8 x0 x1 x2 x3)⟩,
    ⟨Rect.unit ![128, 0, 0] S32x16x1024.size inb_S256x16x1024_S32x16x1024_128_0_0, k0_pay22 (k0_pay20 (k0_pay4 x0 x1)) (k0_pay21 (k0_pay8 x0 x1 x2 x3))⟩,
    ⟨Rect.unit ![96, 0, 0] S32x16x1024.size inb_S256x16x1024_S32x16x1024_96_0_0, k0_pay18 (k0_pay4 x0 x1) (k0_pay8 x0 x1 x2 x3)⟩,
    ⟨Rect.unit ![64, 0, 0] S32x16x1024.size inb_S256x16x1024_S32x16x1024_64_0_0, k0_pay16 (k0_pay4 x0 x1) (k0_pay8 x0 x1 x2 x3)⟩,
    ⟨Rect.unit ![32, 0, 0] S32x16x1024.size inb_S256x16x1024_S32x16x1024_32_0_0, k0_pay13 (k0_pay4 x0 x1) (k0_pay8 x0 x1 x2 x3)⟩,
    ⟨Rect.unit ![0, 0, 0] S32x16x1024.size inb_S256x16x1024_S32x16x1024_0_0_0, k0_pay11 (k0_pay4 x0 x1) (k0_pay8 x0 x1 x2 x3)⟩]

/-- The eight stores of the results, the last first, of the eight slabs of states that they read. -/
def outPieces (h : Fin 8 → Vec Ideal S32x16x1024 .f32) : List (View.Piece (Elt Ideal) S1x256x1024 .f32) :=
  [⟨Rect.unit ![0, 224, 0] S1x32x1024.size inb_S1x256x1024_S1x32x1024_0_224_0, k0_pay1 (k0_pay44 (k0_pay5 x0 x1) (h 7)) (k0_pay45 (k0_pay2 x0)) x4⟩,
    ⟨Rect.unit ![0, 192, 0] S1x32x1024.size inb_S1x256x1024_S1x32x1024_0_192_0, k0_pay43 (k0_pay2 x0) (k0_pay5 x0 x1) (h 6) x4⟩,
    ⟨Rect.unit ![0, 160, 0] S1x32x1024.size inb_S1x256x1024_S1x32x1024_0_160_0, k0_pay42 (k0_pay2 x0) (k0_pay41 (k0_pay5 x0 x1)) (h 5) x4⟩,
    ⟨Rect.unit ![0, 128, 0] S1x32x1024.size inb_S1x256x1024_S1x32x1024_0_128_0, k0_pay40 (k0_pay2 x0) (k0_pay5 x0 x1) (h 4) x4⟩,
    ⟨Rect.unit ![0, 96, 0] S1x32x1024.size inb_S1x256x1024_S1x32x1024_0_96_0, k0_pay39 (k0_pay2 x0) (k0_pay5 x0 x1) (h 3) x4⟩,
    ⟨Rect.unit ![0, 64, 0] S1x32x1024.size inb_S1x256x1024_S1x32x1024_0_64_0, k0_pay38 (k0_pay37 (k0_pay2 x0) (k0_pay5 x0 x1) (h 2) x4)⟩,
    ⟨Rect.unit ![0, 32, 0] S1x32x1024.size inb_S1x256x1024_S1x32x1024_0_32_0, k0_pay36 (k0_pay2 x0) (k0_pay5 x0 x1) (h 1) x4⟩,
    ⟨Rect.unit ![0, 0, 0] S1x32x1024.size inb_S1x256x1024_S1x32x1024_0_0_0, k0_pay35 (k0_pay2 x0) (k0_pay34 (k0_pay5 x0 x1) (h 0)) x4⟩]

/-- Every store of the decay factors is a slab of `decay`. -/
theorem decay_pieces :
    ∀ p ∈ decayPieces x0 x1 x2 x3, ∀ y : p.1.shape.Idx, p.2 y = decay (k0_pay6 x0 x1 x2 x3) (p.1.emb y) := by
  intro p hp
  simp only [decayPieces, List.mem_cons, List.not_mem_nil, or_false] at hp
  rcases hp with rfl | rfl | rfl | rfl | rfl | rfl | rfl | rfl
  · intro (y : S32x16x1024.Idx)
    obtain ⟨r, n, d, rfl⟩ : ∃ (r : Fin 32) (n : Fin 16) (d : Fin 1024), y = ix3 r n d := ⟨y 0, y 1, y 2, eq_ix3 y⟩
    refine Eq.trans ?_ (congrArg _ (slab_emb 224 inb_S256x16x1024_S32x16x1024_224_0_0 (by decide) r n d)).symm
    pointwise [k0_pay28, decay]
  · intro (y : S32x16x1024.Idx)
    obtain ⟨r, n, d, rfl⟩ : ∃ (r : Fin 32) (n : Fin 16) (d : Fin 1024), y = ix3 r n d := ⟨y 0, y 1, y 2, eq_ix3 y⟩
    refine Eq.trans ?_ (congrArg _ (slab_emb 192 inb_S256x16x1024_S32x16x1024_192_0_0 (by decide) r n d)).symm
    pointwise [k0_pay25, decay]
  · intro (y : S32x16x1024.Idx)
    obtain ⟨r, n, d, rfl⟩ : ∃ (r : Fin 32) (n : Fin 16) (d : Fin 1024), y = ix3 r n d := ⟨y 0, y 1, y 2, eq_ix3 y⟩
    refine Eq.trans ?_ (congrArg _ (slab_emb 160 inb_S256x16x1024_S32x16x1024_160_0_0 (by decide) r n d)).symm
    pointwise [k0_pay23, decay]
  · intro (y : S32x16x1024.Idx)
    obtain ⟨r, n, d, rfl⟩ : ∃ (r : Fin 32) (n : Fin 16) (d : Fin 1024), y = ix3 r n d := ⟨y 0, y 1, y 2, eq_ix3 y⟩
    refine Eq.trans ?_ (congrArg _ (slab_emb 128 inb_S256x16x1024_S32x16x1024_128_0_0 (by decide) r n d)).symm
    pointwise [k0_pay19, decay]
  · intro (y : S32x16x1024.Idx)
    obtain ⟨r, n, d, rfl⟩ : ∃ (r : Fin 32) (n : Fin 16) (d : Fin 1024), y = ix3 r n d := ⟨y 0, y 1, y 2, eq_ix3 y⟩
    refine Eq.trans ?_ (congrArg _ (slab_emb 96 inb_S256x16x1024_S32x16x1024_96_0_0 (by decide) r n d)).symm
    pointwise [k0_pay17, decay]
  · intro (y : S32x16x1024.Idx)
    obtain ⟨r, n, d, rfl⟩ : ∃ (r : Fin 32) (n : Fin 16) (d : Fin 1024), y = ix3 r n d := ⟨y 0, y 1, y 2, eq_ix3 y⟩
    refine Eq.trans ?_ (congrArg _ (slab_emb 64 inb_S256x16x1024_S32x16x1024_64_0_0 (by decide) r n d)).symm
    pointwise [k0_pay15, k0_pay14, decay]
  · intro (y : S32x16x1024.Idx)
    obtain ⟨r, n, d, rfl⟩ : ∃ (r : Fin 32) (n : Fin 16) (d : Fin 1024), y = ix3 r n d := ⟨y 0, y 1, y 2, eq_ix3 y⟩
    refine Eq.trans ?_ (congrArg _ (slab_emb 32 inb_S256x16x1024_S32x16x1024_32_0_0 (by decide) r n d)).symm
    pointwise [k0_pay12, decay]
  · intro (y : S32x16x1024.Idx)
    obtain ⟨r, n, d, rfl⟩ : ∃ (r : Fin 32) (n : Fin 16) (d : Fin 1024), y = ix3 r n d := ⟨y 0, y 1, y 2, eq_ix3 y⟩
    refine Eq.trans ?_ (congrArg _ (slab_emb 0 inb_S256x16x1024_S32x16x1024_0_0_0 (by decide) r n d)).symm
    pointwise [k0_pay10, k0_pay9, decay]

/-- Every store of the driving terms is a slab of `drive`. -/
theorem drive_pieces :
    ∀ p ∈ drivePieces x0 x1 x2 x3, ∀ y : p.1.shape.Idx, p.2 y = drive (k0_pay4 x0 x1) (k0_pay8 x0 x1 x2 x3) (p.1.emb y) := by
  intro p hp
  simp only [drivePieces, List.mem_cons, List.not_mem_nil, or_false] at hp
  rcases hp with rfl | rfl | rfl | rfl | rfl | rfl | rfl | rfl
  · intro (y : S32x16x1024.Idx)
    obtain ⟨r, n, d, rfl⟩ : ∃ (r : Fin 32) (n : Fin 16) (d : Fin 1024), y = ix3 r n d := ⟨y 0, y 1, y 2, eq_ix3 y⟩
    refine Eq.trans ?_ (congrArg _ (slab_emb 224 inb_S256x16x1024_S32x16x1024_224_0_0 (by decide) r n d)).symm
    pointwise [k0_pay29, drive]
  · intro (y : S32x16x1024.Idx)
    obtain ⟨r, n, d, rfl⟩ : ∃ (r : Fin 32) (n : Fin 16) (d : Fin 1024), y = ix3 r n d := ⟨y 0, y 1, y 2, eq_ix3 y⟩
    refine Eq.trans ?_ (congrArg _ (slab_emb 192 inb_S256x16x1024_S32x16x1024_192_0_0 (by decide) r n d)).symm
    pointwise [k0_pay27, k0_pay26, drive]
  · intro (y : S32x16x1024.Idx)
    obtain ⟨r, n, d, rfl⟩ : ∃ (r : Fin 32) (n : Fin 16) (d : Fin 1024), y = ix3 r n d := ⟨y 0, y 1, y 2, eq_ix3 y⟩
    refine Eq.trans ?_ (congrArg _ (slab_emb 160 inb_S256x16x1024_S32x16x1024_160_0_0 (by decide) r n d)).symm
    pointwise [k0_pay24, drive]
  · intro (y : S32x16x1024.Idx)
    obtain ⟨r, n, d, rfl⟩ : ∃ (r : Fin 32) (n : Fin 16) (d : Fin 1024), y = ix3 r n d := ⟨y 0, y 1, y 2, eq_ix3 y⟩
    refine Eq.trans ?_ (congrArg _ (slab_emb 128 inb_S256x16x1024_S32x16x1024_128_0_0 (by decide) r n d)).symm
    pointwise [k0_pay22, k0_pay20, k0_pay21, drive]
  · intro (y : S32x16x1024.Idx)
    obtain ⟨r, n, d, rfl⟩ : ∃ (r : Fin 32) (n : Fin 16) (d : Fin 1024), y = ix3 r n d := ⟨y 0, y 1, y 2, eq_ix3 y⟩
    refine Eq.trans ?_ (congrArg _ (slab_emb 96 inb_S256x16x1024_S32x16x1024_96_0_0 (by decide) r n d)).symm
    pointwise [k0_pay18, drive]
  · intro (y : S32x16x1024.Idx)
    obtain ⟨r, n, d, rfl⟩ : ∃ (r : Fin 32) (n : Fin 16) (d : Fin 1024), y = ix3 r n d := ⟨y 0, y 1, y 2, eq_ix3 y⟩
    refine Eq.trans ?_ (congrArg _ (slab_emb 64 inb_S256x16x1024_S32x16x1024_64_0_0 (by decide) r n d)).symm
    pointwise [k0_pay16, drive]
  · intro (y : S32x16x1024.Idx)
    obtain ⟨r, n, d, rfl⟩ : ∃ (r : Fin 32) (n : Fin 16) (d : Fin 1024), y = ix3 r n d := ⟨y 0, y 1, y 2, eq_ix3 y⟩
    refine Eq.trans ?_ (congrArg _ (slab_emb 32 inb_S256x16x1024_S32x16x1024_32_0_0 (by decide) r n d)).symm
    pointwise [k0_pay13, drive]
  · intro (y : S32x16x1024.Idx)
    obtain ⟨r, n, d, rfl⟩ : ∃ (r : Fin 32) (n : Fin 16) (d : Fin 1024), y = ix3 r n d := ⟨y 0, y 1, y 2, eq_ix3 y⟩
    refine Eq.trans ?_ (congrArg _ (slab_emb 0 inb_S256x16x1024_S32x16x1024_0_0_0 (by decide) r n d)).symm
    pointwise [k0_pay11, drive]

/-- Every store of the results is a slab of `outs`, when the slabs of states read are slabs of one stack. -/
theorem out_pieces (h : Fin 8 → Vec Ideal S32x16x1024 .f32) (H : FVec Ideal S256x16x1024 .f32)
    (hH : ∀ (s : Fin 8) (r : Fin 32) (n : Fin 16) (d : Fin 1024), h s (ix3 r n d) = H (ix3 ⟨32 * s.val + r.val, by omega⟩ n d)) :
    ∀ p ∈ outPieces x0 x1 x4 h, ∀ y : p.1.shape.Idx, p.2 y = outs (k0_pay2 x0) (k0_pay5 x0 x1) H x4 (p.1.emb y) := by
  intro p hp
  simp only [outPieces, List.mem_cons, List.not_mem_nil, or_false] at hp
  rcases hp with rfl | rfl | rfl | rfl | rfl | rfl | rfl | rfl
  · intro (y : S1x32x1024.Idx)
    obtain ⟨z, r, d, rfl⟩ : ∃ (z : Fin 1) (r : Fin 32) (d : Fin 1024), y = ix3 z r d := ⟨y 0, y 1, y 2, eq_ix3 y⟩
    refine Eq.trans ?_ (congrArg _ (rows_emb 224 inb_S1x256x1024_S1x32x1024_0_224_0 (by decide) z r d)).symm
    pointwise [k0_pay1, k0_pay44, k0_pay45, outs]
    simp only [hH]
    rfl
  · intro (y : S1x32x1024.Idx)
    obtain ⟨z, r, d, rfl⟩ : ∃ (z : Fin 1) (r : Fin 32) (d : Fin 1024), y = ix3 z r d := ⟨y 0, y 1, y 2, eq_ix3 y⟩
    refine Eq.trans ?_ (congrArg _ (rows_emb 192 inb_S1x256x1024_S1x32x1024_0_192_0 (by decide) z r d)).symm
    pointwise [k0_pay43, outs]
    simp only [hH]
    rfl
  · intro (y : S1x32x1024.Idx)
    obtain ⟨z, r, d, rfl⟩ : ∃ (z : Fin 1) (r : Fin 32) (d : Fin 1024), y = ix3 z r d := ⟨y 0, y 1, y 2, eq_ix3 y⟩
    refine Eq.trans ?_ (congrArg _ (rows_emb 160 inb_S1x256x1024_S1x32x1024_0_160_0 (by decide) z r d)).symm
    pointwise [k0_pay42, k0_pay41, outs]
    simp only [hH]
    rfl
  · intro (y : S1x32x1024.Idx)
    obtain ⟨z, r, d, rfl⟩ : ∃ (z : Fin 1) (r : Fin 32) (d : Fin 1024), y = ix3 z r d := ⟨y 0, y 1, y 2, eq_ix3 y⟩
    refine Eq.trans ?_ (congrArg _ (rows_emb 128 inb_S1x256x1024_S1x32x1024_0_128_0 (by decide) z r d)).symm
    pointwise [k0_pay40, outs]
    simp only [hH]
    rfl
  · intro (y : S1x32x1024.Idx)
    obtain ⟨z, r, d, rfl⟩ : ∃ (z : Fin 1) (r : Fin 32) (d : Fin 1024), y = ix3 z r d := ⟨y 0, y 1, y 2, eq_ix3 y⟩
    refine Eq.trans ?_ (congrArg _ (rows_emb 96 inb_S1x256x1024_S1x32x1024_0_96_0 (by decide) z r d)).symm
    pointwise [k0_pay39, outs]
    simp only [hH]
    rfl
  · intro (y : S1x32x1024.Idx)
    obtain ⟨z, r, d, rfl⟩ : ∃ (z : Fin 1) (r : Fin 32) (d : Fin 1024), y = ix3 z r d := ⟨y 0, y 1, y 2, eq_ix3 y⟩
    refine Eq.trans ?_ (congrArg _ (rows_emb 64 inb_S1x256x1024_S1x32x1024_0_64_0 (by decide) z r d)).symm
    pointwise [k0_pay38, k0_pay37, outs]
    simp only [hH]
    rfl
  · intro (y : S1x32x1024.Idx)
    obtain ⟨z, r, d, rfl⟩ : ∃ (z : Fin 1) (r : Fin 32) (d : Fin 1024), y = ix3 z r d := ⟨y 0, y 1, y 2, eq_ix3 y⟩
    refine Eq.trans ?_ (congrArg _ (rows_emb 32 inb_S1x256x1024_S1x32x1024_0_32_0 (by decide) z r d)).symm
    pointwise [k0_pay36, outs]
    simp only [hH]
    rfl
  · intro (y : S1x32x1024.Idx)
    obtain ⟨z, r, d, rfl⟩ : ∃ (z : Fin 1) (r : Fin 32) (d : Fin 1024), y = ix3 z r d := ⟨y 0, y 1, y 2, eq_ix3 y⟩
    refine Eq.trans ?_ (congrArg _ (rows_emb 0 inb_S1x256x1024_S1x32x1024_0_0_0 (by decide) z r d)).symm
    pointwise [k0_pay35, k0_pay34, outs]
    simp only [hH, Fin.val_zero, Nat.mul_zero, Nat.zero_add]

/-- The exponents' factor: minus the state's number, counted from 1. -/
theorem minus_n (n : Fin 16) : k0_pay7 (F := Ideal) (ix3 0 n 0) = 0 - FloatOps.sitofp (φ := .f32) (IntOp.addi (1#32) (BitVec.ofNat 32 n.val)) := by
  pointwise [k0_pay7]

/-- One step of the recurrence at an index. -/
theorem step_apply (h : Vec Ideal S16x1024 .f32) (a b : Vec Ideal S1x16x1024 .f32) (n : Fin 16) (d : Fin 1024) :
    k0_pay31 (F := Ideal) h a b (ix2 n d) = a (ix3 0 n d) * h (ix2 n d) + b (ix3 0 n d) := by
  pointwise [k0_pay31]

/-- The row stored by a step is the step's state. -/
theorem row_apply (h : Vec Ideal S16x1024 .f32) (a b : Vec Ideal S1x16x1024 .f32) (z : Fin 1) (n : Fin 16) (d : Fin 1024) :
    k0_pay32 (F := Ideal) h a b (ix3 z n d) = k0_pay31 (F := Ideal) h a b (ix2 n d) := by
  pointwise [k0_pay32]

/-- The state stored at the block's end is the last step's. -/
theorem keep_eq (h : Vec Ideal S16x1024 .f32) : k0_pay33 (F := Ideal) h = h := by
  funext y
  idx_vars y
  pointwise [k0_pay33]

/-- The state stored at a row of blocks' beginning is zero. -/
theorem clear_apply (y : S16x1024.Idx) : k0_pay30 (F := Ideal) y = 0 := by
  idx_vars y
  pointwise [k0_pay30]

end Cert.Proof.KernelIdeal

end
-- ==== Proof.KernelLoop.lean ====
module

public import proofs.«01_k».proof.Proof.KernelIdealRun
public import proofs.«01_k».proof.Proof.KernelPay
public import Idealize.ShloMosaic.Lib.WritesUnit
public import proofs.«01_k».proof.Proof.Gen.KernelIdeal.Frame
public import proofs.«01_k».proof.Proof.Gen.KernelIdeal.Loops
public import proofs.«01_k».proof.Proof.Gen.KernelIdeal.Skeleton

@[expose] public section

set_option maxRecDepth 16384

noncomputable section

namespace Cert.Proof.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The states of a block: from `h`, each row's state is its decay times the state before plus its driving term. -/
def hrec (A X : S256x16x1024.Idx → EReal) (h : S16x1024.Idx → EReal) : ℕ → S16x1024.Idx → EReal
  | 0 => h
  | k + 1 => fun y => if hk : k < 256 then A (ix3 ⟨k, hk⟩ (y 0) (y 1)) * hrec A X h k y + X (ix3 ⟨k, hk⟩ (y 0) (y 1)) else hrec A X h k y

/-- The states after each row of a block, stacked. -/
def states (A X : S256x16x1024.Idx → EReal) (h : S16x1024.Idx → EReal) : S256x16x1024.Idx → EReal :=
  fun y => hrec A X h ((y 0).val + 1) (ix2 (y 1) (y 2))

/-- The loop runs 256 trips. -/
theorem trips_eq : k0_t1_loop.trips = 256 := by decide

/-- The rectangle that trip `k` loads and stores. -/
abbrev rowRect (k : Fin k0_t1_loop.trips) : Rect S256x16x1024 := Rect.unit (k0_off1 k) S1x16x1024.size (k0_off1_inb k)

/-- What trip `k` loads of a work buffer at the contents `f`. -/
def rowOf (w : Memref sig .tc .vmem S256x16x1024 .f32) (f : BufTy.Contents (Elt Ideal) w.view.ty) (k : Fin k0_t1_loop.trips) : Vec Ideal S1x16x1024 .f32 :=
  View.readAt (Elt Ideal) w.view (rowRect k).toLoadRect f

/-- Trip `k`'s rectangle is row `k` of the stack. -/
theorem row_idx (k : Fin k0_t1_loop.trips) (z : Fin 1) (n : Fin 16) (d : Fin 1024) :
    (rowRect k).idx (ix3 z n d) = ix3 ⟨k.val, lt_of_lt_of_eq k.isLt trips_eq⟩ n d := by
  funext a
  apply Fin.ext
  rw [Rect.idx_unit_val, congrFun (k0_off1_eq k) a]
  fin_cases a <;> simp [ix3]

section Loop

variable (c : Dev nD) (i : grid0.Coords) (arg2 : Memref sig .tc .vmem S1x256x1024 .f32) (harg2 : arg2.IsWhole) (arg3 : Memref sig .tc .vmem S96x1024 .f32) (harg3 : arg3.IsWhole) (arg4 : Memref sig .tc .vmem S1024x64 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x256x1024 .f32) (harg7 : arg7.IsWhole) (arg8 : Memref sig .tc .vmem S256x16x1024 .f32) (harg8 : arg8.IsWhole) (arg9 : Memref sig .tc .vmem S256x16x1024 .f32) (harg9 : arg9.IsWhole) (arg10 : Memref sig .tc .vmem S16x1024 .f32) (harg10 : arg10.IsWhole) (arg1 : BitVec 32) (v5 v6 : FVec Ideal S256x16 .f32) (v23 : FVec Ideal S256x1024 .f32) (v31 : FVec Ideal S1x16x1 .f32) (v34 : FVec Ideal S256x1024 .f32) (v164 : FVec Ideal S32x16x1024 .f32)
  (X : BufTy.Contents (Elt Ideal) arg9.view.ty) (G : BufTy.Contents (Elt Ideal) arg8.view.ty) (init : Vec Ideal S16x1024 .f32)

set_option maxHeartbeats 2000000 in
/-- Before trip `k` the carried value is the `k`th state, and the work buffer holds the states of the rows done and the
    decay factors of the rows to come. -/
theorem loop_state : ∀ k ≤ 256,
    (st_k0_t1 (F := Ideal) Variants.none c none i arg2 harg2 arg3 harg3 arg4 harg4 arg5 harg5 arg6 harg6 arg7 harg7 arg8 harg8 arg9 harg9 arg10 harg10 arg1 v5 v6 v23 v31 v34 v164 X G init k).1 = hrec (arg8.view.read (Elt Ideal) G) (arg9.view.read (Elt Ideal) X) init k
    ∧ ∀ (t : Fin 256) (n : Fin 16) (d : Fin 1024), arg8.view.read (Elt Ideal) (arg8.view.writes (Elt Ideal) G (st_k0_t1 (F := Ideal) Variants.none c none i arg2 harg2 arg3 harg3 arg4 harg4 arg5 harg5 arg6 harg6 arg7 harg7 arg8 harg8 arg9 harg9 arg10 harg10 arg1 v5 v6 v23 v31 v34 v164 X G init k).2) (ix3 t n d)
        = if t.val < k then hrec (arg8.view.read (Elt Ideal) G) (arg9.view.read (Elt Ideal) X) init (t.val + 1) (ix2 n d) else arg8.view.read (Elt Ideal) G (ix3 t n d) := by
  intro k
  induction k with
  | zero => exact fun _ => ⟨rfl, fun t n d => by rw [if_neg (by omega)]; rfl⟩
  | succ k ih =>
    intro hk
    obtain ⟨ih1, ih2⟩ := ih (by omega)
    have hkt : k < k0_t1_loop.trips := by rw [trips_eq]; omega
    have hrow : k0_pay31 (F := Ideal) (st_k0_t1 (F := Ideal) Variants.none c none i arg2 harg2 arg3 harg3 arg4 harg4 arg5 harg5 arg6 harg6 arg7 harg7 arg8 harg8 arg9 harg9 arg10 harg10 arg1 v5 v6 v23 v31 v34 v164 X G init k).1
          (rowOf arg8 (arg8.view.writes (Elt Ideal) G (st_k0_t1 (F := Ideal) Variants.none c none i arg2 harg2 arg3 harg3 arg4 harg4 arg5 harg5 arg6 harg6 arg7 harg7 arg8 harg8 arg9 harg9 arg10 harg10 arg1 v5 v6 v23 v31 v34 v164 X G init k).2) ⟨k, hkt⟩)
          (rowOf arg9 X ⟨k, hkt⟩)
        = hrec (arg8.view.read (Elt Ideal) G) (arg9.view.read (Elt Ideal) X) init (k + 1) := by
      funext y
      obtain ⟨n, d, rfl⟩ : ∃ (n : Fin 16) (d : Fin 1024), y = ix2 n d := ⟨y 0, y 1, eq_ix2 y⟩
      rw [step_apply]
      unfold hrec
      rw [dif_pos (by omega), ← ih1]
      have e8 : rowOf arg8 (arg8.view.writes (Elt Ideal) G (st_k0_t1 (F := Ideal) Variants.none c none i arg2 harg2 arg3 harg3 arg4 harg4 arg5 harg5 arg6 harg6 arg7 harg7 arg8 harg8 arg9 harg9 arg10 harg10 arg1 v5 v6 v23 v31 v34 v164 X G init k).2) ⟨k, hkt⟩ (ix3 0 n d)
          = arg8.view.read (Elt Ideal) G (ix3 ⟨k, by omega⟩ n d) := by
        refine (congrArg (arg8.view.read (Elt Ideal) _) (row_idx ⟨k, hkt⟩ 0 n d)).trans ?_
        rw [ih2, if_neg (by simp)]
      have e9 : rowOf arg9 X ⟨k, hkt⟩ (ix3 0 n d)
          = arg9.view.read (Elt Ideal) X (ix3 ⟨k, by omega⟩ n d) :=
        congrArg (arg9.view.read (Elt Ideal) _) (row_idx ⟨k, hkt⟩ 0 n d)
      rw [e8, e9]
      rfl
    have hst := st_k0_t1_succ (F := Ideal) Variants.none c none i arg2 harg2 arg3 harg3 arg4 harg4 arg5 harg5 arg6 harg6 arg7 harg7 arg8 harg8 arg9 harg9 arg10 harg10 arg1 v5 v6 v23 v31 v34 v164 X G init ⟨k, hkt⟩
    unfold tripR_k0_t1 tripL_k0_t1 trip_k0_t1 at hst
    dsimp only at hst
    rw [hst]
    refine ⟨hrow, fun t n d => ?_⟩
    dsimp only [List.cons_append, List.nil_append]
    by_cases ht : t.val = k
    · rw [View.read_writes_cons_unit_of_mem (x := ix3 0 n d) (heq := k0_off1_eq ⟨k, hkt⟩)
        (hx := fun a => by fin_cases a <;> simp [ix3, ht]), row_apply]
      refine (congrFun hrow _).trans ?_
      rw [if_pos (by omega), ht]
    · rw [View.read_writes_cons_unit_of_not_mem (heq := k0_off1_eq ⟨k, hkt⟩) (a := 0)
        (ha := by simp [ix3]; omega), ih2]
      by_cases h' : t.val < k
      · rw [if_pos h', if_pos (by omega)]
      · rw [if_neg h', if_neg (by omega)]

end Loop

end Cert.Proof.KernelIdeal

end
-- ==== Proof.KernelBlock.lean ====
module

public import proofs.«01_k».proof.Proof.KernelIdealRun
public import proofs.«01_k».proof.Proof.KernelPay
public import proofs.«01_k».proof.Proof.KernelLoop
public import Idealize.ShloMosaic.Lib.Ring
public import Idealize.ShloMosaic.Lib.WritesUnit
public import proofs.«01_k».proof.Proof.Gen.KernelIdeal.Frame
public import proofs.«01_k».proof.Proof.Gen.KernelIdeal.Loops
public import proofs.«01_k».proof.Proof.Gen.KernelIdeal.Skeleton

@[expose] public section

set_option maxRecDepth 16384

noncomputable section

namespace Cert.Proof.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- Reading a whole buffer through its whole rectangle gives its contents. -/
theorem read_all {S : Shape} {e : EltTy} {sp : Space} (a : Memref sig .tc sp S e) (ha : a.IsWhole) (X : S.Idx → Elt Ideal e) {off : Fin S.rank → ℕ} (inb : ∀ a, off a + S.size a ≤ S.size a) (h0 : ∀ a, off a = 0) :
    View.readAt (Elt Ideal) a.view (Rect.unit off S.size inb).toLoadRect (ha.unread X) = X := by
  rw [View.readAt_eq_ld, View.ld_unit_lit inb _ h0, ha.read_unread]

/-- The state's buffer after a store of the whole of it. -/
theorem keep_read (a : Memref sig .tc .vmem S16x1024 .f32) (f : BufTy.Contents (Elt Ideal) a.view.ty) (inb : ∀ a, (![0, 0] : Fin S16x1024.rank → ℕ) a + S16x1024.size a ≤ S16x1024.size a) (w : S16x1024.Idx → EReal) (L : List (View.Piece (Elt Ideal) S16x1024 .f32)) :
    a.view.read (Elt Ideal) (a.view.writes (Elt Ideal) f (⟨Rect.unit ![0, 0] S16x1024.size inb, w⟩ :: L)) = w := by
  funext y
  exact View.read_writes_cons_unit_of_mem (x := y) (off' := ![0, 0]) a.view f inb w L y rfl (fun b => by fin_cases b <;> simp)

/-- The stack that the loop leaves in a work buffer, loaded a slab at a time. -/
theorem slab_read (a : Memref sig .tc .vmem S256x16x1024 .f32) (L : List (View.Piece (Elt Ideal) S256x16x1024 .f32)) (H : S256x16x1024.Idx → EReal)
    (hL : ∀ (t : Fin 256) (n : Fin 16) (d : Fin 1024), a.view.read (Elt Ideal) (a.view.writes (Elt Ideal) a.view.junk L) (ix3 t n d) = H (ix3 t n d))
    (o : ℕ) (inb) (ho : o + 32 ≤ 256) (r : Fin 32) (n : Fin 16) (d : Fin 1024) :
    a.view.readCov L (Rect.unit (s := S256x16x1024) ![o, 0, 0] S32x16x1024.size inb).toLoadRect (ix3 r n d) = H (ix3 ⟨o + r.val, by omega⟩ n d) :=
  (congrArg (a.view.read (Elt Ideal) _) (slab_emb o inb ho r n d)).trans (hL _ _ _)

/-- A work buffer after the eight stores of the decay factors. -/
theorem decay_read (a : Memref sig .tc .vmem S256x16x1024 .f32) (f : BufTy.Contents (Elt Ideal) a.view.ty) (x0 : Vec Ideal S1x256x1024 .f32) (x1 : Vec Ideal S96x1024 .f32) (x2 : Vec Ideal S1024x64 .f32) (x3 : Vec Ideal S1x1024 .f32) :
    a.view.read (Elt Ideal) (a.view.writes (Elt Ideal) f (decayPieces x0 x1 x2 x3)) = decay (k0_pay6 x0 x1 x2 x3) := by
  funext y
  exact View.read_writes_apply_of_pieces _ _ _ _ (decay_pieces x0 x1 x2 x3) y (View.cover_of_tiledL _ ![32, 16, 1024] (by sl_kernel_rfl) y)

/-- A work buffer after the eight stores of the driving terms. -/
theorem drive_read (a : Memref sig .tc .vmem S256x16x1024 .f32) (f : BufTy.Contents (Elt Ideal) a.view.ty) (x0 : Vec Ideal S1x256x1024 .f32) (x1 : Vec Ideal S96x1024 .f32) (x2 : Vec Ideal S1024x64 .f32) (x3 : Vec Ideal S1x1024 .f32) :
    a.view.read (Elt Ideal) (a.view.writes (Elt Ideal) f (drivePieces x0 x1 x2 x3)) = drive (k0_pay4 x0 x1) (k0_pay8 x0 x1 x2 x3) := by
  funext y
  exact View.read_writes_apply_of_pieces _ _ _ _ (drive_pieces x0 x1 x2 x3) y (View.cover_of_tiledL _ ![32, 16, 1024] (by sl_kernel_rfl) y)

/-- The result's buffer after the eight stores of the results. -/
theorem out_read (a : Memref sig .tc .vmem S1x256x1024 .f32) (f : BufTy.Contents (Elt Ideal) a.view.ty) (x0 : Vec Ideal S1x256x1024 .f32) (x1 : Vec Ideal S96x1024 .f32) (x4 : Vec Ideal S1x1024 .f32)
    (h : Fin 8 → Vec Ideal S32x16x1024 .f32) (H : FVec Ideal S256x16x1024 .f32)
    (hH : ∀ (s : Fin 8) (r : Fin 32) (n : Fin 16) (d : Fin 1024), h s (ix3 r n d) = H (ix3 ⟨32 * s.val + r.val, by omega⟩ n d)) :
    a.view.read (Elt Ideal) (a.view.writes (Elt Ideal) f (outPieces x0 x1 x4 h)) = outs (k0_pay2 x0) (k0_pay5 x0 x1) H x4 := by
  funext y
  exact View.read_writes_apply_of_pieces _ _ _ _ (out_pieces x0 x1 x4 h H hH) y (View.cover_of_tiledL _ ![1, 32, 1024] (by sl_kernel_rfl) y)

/-- The decay factors and the driving terms of a block with the inputs `x0 … x3`. -/
abbrev dec (x0 : Vec Ideal S1x256x1024 .f32) (x1 : Vec Ideal S96x1024 .f32) (x2 : Vec Ideal S1024x64 .f32) (x3 : Vec Ideal S1x1024 .f32) : FVec Ideal S256x16x1024 .f32 := decay (k0_pay6 x0 x1 x2 x3)
abbrev drv (x0 : Vec Ideal S1x256x1024 .f32) (x1 : Vec Ideal S96x1024 .f32) (x2 : Vec Ideal S1024x64 .f32) (x3 : Vec Ideal S1x1024 .f32) : FVec Ideal S256x16x1024 .f32 := drive (k0_pay4 x0 x1) (k0_pay8 x0 x1 x2 x3)

section Loop

variable (c : Dev nD) (i : grid0.Coords) (arg2 : Memref sig .tc .vmem S1x256x1024 .f32) (harg2 : arg2.IsWhole) (arg3 : Memref sig .tc .vmem S96x1024 .f32) (harg3 : arg3.IsWhole) (arg4 : Memref sig .tc .vmem S1024x64 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x256x1024 .f32) (harg7 : arg7.IsWhole) (arg8 : Memref sig .tc .vmem S256x16x1024 .f32) (harg8 : arg8.IsWhole) (arg9 : Memref sig .tc .vmem S256x16x1024 .f32) (harg9 : arg9.IsWhole) (arg10 : Memref sig .tc .vmem S16x1024 .f32) (harg10 : arg10.IsWhole) (arg1 : BitVec 32) (v5 v6 : FVec Ideal S256x16 .f32) (v23 : FVec Ideal S256x1024 .f32) (v31 : FVec Ideal S1x16x1 .f32) (v34 : FVec Ideal S256x1024 .f32) (v164 : FVec Ideal S32x16x1024 .f32)
  (x0 : Vec Ideal S1x256x1024 .f32) (x1 : Vec Ideal S96x1024 .f32) (x2 : Vec Ideal S1024x64 .f32) (x3 x4 : Vec Ideal S1x1024 .f32) (init : Vec Ideal S16x1024 .f32)

/-- The value carried out of the loop is the block's last state. -/
theorem loop_last : (st_k0_t1 (F := Ideal) Variants.none c none i arg2 harg2 arg3 harg3 arg4 harg4 arg5 harg5 arg6 harg6 arg7 harg7 arg8 harg8 arg9 harg9 arg10 harg10 arg1 v5 v6 v23 v31 v34 v164 (arg9.view.writes (Elt Ideal) arg9.view.junk (drivePieces x0 x1 x2 x3)) (arg8.view.writes (Elt Ideal) arg8.view.junk (decayPieces x0 x1 x2 x3)) init k0_t1_loop.trips).1 = hrec (dec x0 x1 x2 x3) (drv x0 x1 x2 x3) init 256 := by
  rw [trips_eq, (loop_state c i arg2 harg2 arg3 harg3 arg4 harg4 arg5 harg5 arg6 harg6 arg7 harg7 arg8 harg8 arg9 harg9 arg10 harg10 arg1 v5 v6 v23 v31 v34 v164 _ _ init 256 le_rfl).1, decay_read, drive_read]

/-- After the loop the work buffer holds the block's states. -/
theorem loop_rows (t : Fin 256) (n : Fin 16) (d : Fin 1024) :
    arg8.view.read (Elt Ideal) (arg8.view.writes (Elt Ideal) arg8.view.junk ((st_k0_t1 (F := Ideal) Variants.none c none i arg2 harg2 arg3 harg3 arg4 harg4 arg5 harg5 arg6 harg6 arg7 harg7 arg8 harg8 arg9 harg9 arg10 harg10 arg1 v5 v6 v23 v31 v34 v164 (arg9.view.writes (Elt Ideal) arg9.view.junk (drivePieces x0 x1 x2 x3)) (arg8.view.writes (Elt Ideal) arg8.view.junk (decayPieces x0 x1 x2 x3)) init k0_t1_loop.trips).2 ++ decayPieces x0 x1 x2 x3)) (ix3 t n d) = states (dec x0 x1 x2 x3) (drv x0 x1 x2 x3) init (ix3 t n d) := by
  rw [View.writes_append, trips_eq, (loop_state c i arg2 harg2 arg3 harg3 arg4 harg4 arg5 harg5 arg6 harg6 arg7 harg7 arg8 harg8 arg9 harg9 arg10 harg10 arg1 v5 v6 v23 v31 v34 v164 _ _ init 256 le_rfl).2, if_pos t.isLt, decay_read, drive_read]
  rfl

end Loop

section Run

variable (c : Dev nD) (i : grid0.Coords) (arg2 : Memref sig .tc .vmem S1x256x1024 .f32) (harg2 : arg2.IsWhole) (arg3 : Memref sig .tc .vmem S96x1024 .f32) (harg3 : arg3.IsWhole) (arg4 : Memref sig .tc .vmem S1024x64 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x256x1024 .f32) (harg7 : arg7.IsWhole) (arg8 : Memref sig .tc .vmem S256x16x1024 .f32) (harg8 : arg8.IsWhole) (arg9 : Memref sig .tc .vmem S256x16x1024 .f32) (harg9 : arg9.IsWhole) (arg10 : Memref sig .tc .vmem S16x1024 .f32) (harg10 : arg10.IsWhole) (x0 : Vec Ideal S1x256x1024 .f32) (x1 : Vec Ideal S96x1024 .f32) (x2 : Vec Ideal S1024x64 .f32) (x3 x4 : Vec Ideal S1x1024 .f32) (h : Vec Ideal S16x1024 .f32) (f8 : BufTy.Contents (Elt Ideal) arg8.view.ty) (f9 : BufTy.Contents (Elt Ideal) arg9.view.ty)

set_option maxHeartbeats 4000000 in
/-- The body's stores into the result's buffer, at a point whose second coordinate is not 0: the slabs of `outPieces`, read from the block's states. -/
theorem runB_out (hc : ¬first i) : ∃ s : Fin 8 → Vec Ideal S32x16x1024 .f32,
    (runB (F := Ideal) c i arg2 harg2 arg3 harg3 arg4 harg4 arg5 harg5 arg6 harg6 arg7 harg7 arg8 harg8 arg9 harg9 arg10 harg10 hc x0 x1 x2 x3 x4 h f8 f9).2.1 = outPieces x0 x1 x4 s
    ∧ ∀ (q : Fin 8) (r : Fin 32) (n : Fin 16) (d : Fin 1024), s q (ix3 r n d) = states (dec x0 x1 x2 x3) (drv x0 x1 x2 x3) h (ix3 ⟨32 * q.val + r.val, by omega⟩ n d) := by
  have e0 := fun inb => read_all arg2 harg2 x0 (off := ![0, 0, 0]) inb (by decide)
  have e1 := fun inb => read_all arg3 harg3 x1 (off := ![0, 0]) inb (by decide)
  have e2 := fun inb => read_all arg4 harg4 x2 (off := ![0, 0]) inb (by decide)
  have e3 := fun inb => read_all arg5 harg5 x3 (off := ![0, 0]) inb (by decide)
  have e4 := fun inb => read_all arg6 harg6 x4 (off := ![0, 0]) inb (by decide)
  have eh := fun inb => read_all arg10 harg10 h (off := ![0, 0]) inb (by decide)
  unfold runB
  dsimp only
  sl_unfold_words
  rw [e0, e1, e2, e3, e4, eh]
  refine ⟨![_, _, _, _, _, _, _, _], rfl, ?_⟩
  have hr := loop_rows c i arg2 harg2 arg3 harg3 arg4 harg4 arg5 harg5 arg6 harg6 arg7 harg7 arg8 harg8 arg9 harg9 arg10 harg10 (BitVec.ofNat 32 (i 1).val) (k0_pay4 x0 x1) (k0_pay5 x0 x1) (k0_pay6 x0 x1 x2 x3) (k0_pay7 (F := Ideal)) (k0_pay8 x0 x1 x2 x3) (k0_pay26 (k0_pay4 x0 x1) (k0_pay8 x0 x1 x2 x3)) x0 x1 x2 x3 h
  intro q r n d
  fin_cases q
  · refine (slab_read arg8 _ _ hr 0 _ (by decide) r n d).trans ?_
    rfl
  · refine (slab_read arg8 _ _ hr 32 _ (by decide) r n d).trans ?_
    rfl
  · refine (slab_read arg8 _ _ hr 64 _ (by decide) r n d).trans ?_
    rfl
  · refine (slab_read arg8 _ _ hr 96 _ (by decide) r n d).trans ?_
    rfl
  · refine (slab_read arg8 _ _ hr 128 _ (by decide) r n d).trans ?_
    rfl
  · refine (slab_read arg8 _ _ hr 160 _ (by decide) r n d).trans ?_
    rfl
  · refine (slab_read arg8 _ _ hr 192 _ (by decide) r n d).trans ?_
    rfl
  · refine (slab_read arg8 _ _ hr 224 _ (by decide) r n d).trans ?_
    rfl

set_option maxHeartbeats 4000000 in
/-- The body's stores into the state's buffer, at a point whose second coordinate is not 0: the last leaves the block's last state. -/
theorem runB_state (hc : ¬first i) (f : BufTy.Contents (Elt Ideal) arg10.view.ty) :
    arg10.view.read (Elt Ideal) (arg10.view.writes (Elt Ideal) f (runB (F := Ideal) c i arg2 harg2 arg3 harg3 arg4 harg4 arg5 harg5 arg6 harg6 arg7 harg7 arg8 harg8 arg9 harg9 arg10 harg10 hc x0 x1 x2 x3 x4 h f8 f9).1) = hrec (dec x0 x1 x2 x3) (drv x0 x1 x2 x3) h 256 := by
  have e0 := fun inb => read_all arg2 harg2 x0 (off := ![0, 0, 0]) inb (by decide)
  have e1 := fun inb => read_all arg3 harg3 x1 (off := ![0, 0]) inb (by decide)
  have e2 := fun inb => read_all arg4 harg4 x2 (off := ![0, 0]) inb (by decide)
  have e3 := fun inb => read_all arg5 harg5 x3 (off := ![0, 0]) inb (by decide)
  have eh := fun inb => read_all arg10 harg10 h (off := ![0, 0]) inb (by decide)
  unfold runB
  dsimp only
  sl_unfold_words
  rw [e0, e1, e2, e3, eh]
  have hl := loop_last c i arg2 harg2 arg3 harg3 arg4 harg4 arg5 harg5 arg6 harg6 arg7 harg7 arg8 harg8 arg9 harg9 arg10 harg10 (BitVec.ofNat 32 (i 1).val) (k0_pay4 x0 x1) (k0_pay5 x0 x1) (k0_pay6 x0 x1 x2 x3) (k0_pay7 (F := Ideal)) (k0_pay8 x0 x1 x2 x3) (k0_pay26 (k0_pay4 x0 x1) (k0_pay8 x0 x1 x2 x3)) x0 x1 x2 x3 h
  refine Eq.trans ?_ hl
  funext y
  refine (congrFun (keep_read arg10 f _ _ _) y).trans ?_
  exact congrFun (keep_eq _) y

set_option maxHeartbeats 4000000 in
/-- The body's stores into the result's buffer, at a point whose second coordinate is 0: the slabs of `outPieces`, read from the block's states. -/
theorem runA_out (hc : first i) : ∃ s : Fin 8 → Vec Ideal S32x16x1024 .f32,
    (runA (F := Ideal) c i arg2 harg2 arg3 harg3 arg4 harg4 arg5 harg5 arg6 harg6 arg7 harg7 arg8 harg8 arg9 harg9 arg10 harg10 hc x0 x1 x2 x3 x4 h f8 f9).2.1 = outPieces x0 x1 x4 s
    ∧ ∀ (q : Fin 8) (r : Fin 32) (n : Fin 16) (d : Fin 1024), s q (ix3 r n d) = states (dec x0 x1 x2 x3) (drv x0 x1 x2 x3) (fun _ => 0) (ix3 ⟨32 * q.val + r.val, by omega⟩ n d) := by
  have e0 := fun inb => read_all arg2 harg2 x0 (off := ![0, 0, 0]) inb (by decide)
  have e1 := fun inb => read_all arg3 harg3 x1 (off := ![0, 0]) inb (by decide)
  have e2 := fun inb => read_all arg4 harg4 x2 (off := ![0, 0]) inb (by decide)
  have e3 := fun inb => read_all arg5 harg5 x3 (off := ![0, 0]) inb (by decide)
  have e4 := fun inb => read_all arg6 harg6 x4 (off := ![0, 0]) inb (by decide)
  have eh := fun inb => (View.readCov_unit_lit (Val := Elt Ideal) (S := S16x1024) arg10.view (off := ![0, 0]) inb (k0_pay30 (F := Ideal)) (by decide)).trans (funext clear_apply)
  unfold runA
  dsimp only
  sl_unfold_words
  rw [e0, e1, e2, e3, e4, eh]
  refine ⟨![_, _, _, _, _, _, _, _], rfl, ?_⟩
  have hr := loop_rows c i arg2 harg2 arg3 harg3 arg4 harg4 arg5 harg5 arg6 harg6 arg7 harg7 arg8 harg8 arg9 harg9 arg10 harg10 (BitVec.ofNat 32 (i 1).val) (k0_pay4 x0 x1) (k0_pay5 x0 x1) (k0_pay6 x0 x1 x2 x3) (k0_pay7 (F := Ideal)) (k0_pay8 x0 x1 x2 x3) (k0_pay26 (k0_pay4 x0 x1) (k0_pay8 x0 x1 x2 x3)) x0 x1 x2 x3 (fun _ => 0)
  intro q r n d
  fin_cases q
  · refine (slab_read arg8 _ _ hr 0 _ (by decide) r n d).trans ?_
    rfl
  · refine (slab_read arg8 _ _ hr 32 _ (by decide) r n d).trans ?_
    rfl
  · refine (slab_read arg8 _ _ hr 64 _ (by decide) r n d).trans ?_
    rfl
  · refine (slab_read arg8 _ _ hr 96 _ (by decide) r n d).trans ?_
    rfl
  · refine (slab_read arg8 _ _ hr 128 _ (by decide) r n d).trans ?_
    rfl
  · refine (slab_read arg8 _ _ hr 160 _ (by decide) r n d).trans ?_
    rfl
  · refine (slab_read arg8 _ _ hr 192 _ (by decide) r n d).trans ?_
    rfl
  · refine (slab_read arg8 _ _ hr 224 _ (by decide) r n d).trans ?_
    rfl

set_option maxHeartbeats 4000000 in
/-- The body's stores into the state's buffer, at a point whose second coordinate is 0: the last leaves the block's last state. -/
theorem runA_state (hc : first i) (f : BufTy.Contents (Elt Ideal) arg10.view.ty) :
    arg10.view.read (Elt Ideal) (arg10.view.writes (Elt Ideal) f (runA (F := Ideal) c i arg2 harg2 arg3 harg3 arg4 harg4 arg5 harg5 arg6 harg6 arg7 harg7 arg8 harg8 arg9 harg9 arg10 harg10 hc x0 x1 x2 x3 x4 h f8 f9).1) = hrec (dec x0 x1 x2 x3) (drv x0 x1 x2 x3) (fun _ => 0) 256 := by
  have e0 := fun inb => read_all arg2 harg2 x0 (off := ![0, 0, 0]) inb (by decide)
  have e1 := fun inb => read_all arg3 harg3 x1 (off := ![0, 0]) inb (by decide)
  have e2 := fun inb => read_all arg4 harg4 x2 (off := ![0, 0]) inb (by decide)
  have e3 := fun inb => read_all arg5 harg5 x3 (off := ![0, 0]) inb (by decide)
  have eh := fun inb => (View.readCov_unit_lit (Val := Elt Ideal) (S := S16x1024) arg10.view (off := ![0, 0]) inb (k0_pay30 (F := Ideal)) (by decide)).trans (funext clear_apply)
  unfold runA
  dsimp only
  sl_unfold_words
  rw [e0, e1, e2, e3, eh]
  have hl := loop_last c i arg2 harg2 arg3 harg3 arg4 harg4 arg5 harg5 arg6 harg6 arg7 harg7 arg8 harg8 arg9 harg9 arg10 harg10 (BitVec.ofNat 32 (i 1).val) (k0_pay4 x0 x1) (k0_pay5 x0 x1) (k0_pay6 x0 x1 x2 x3) (k0_pay7 (F := Ideal)) (k0_pay8 x0 x1 x2 x3) (k0_pay26 (k0_pay4 x0 x1) (k0_pay8 x0 x1 x2 x3)) x0 x1 x2 x3 (fun _ => 0)
  refine Eq.trans ?_ hl
  funext y
  refine (congrFun (keep_read arg10 f _ _ _) y).trans ?_
  exact congrFun (keep_eq _) y

end Run

end Cert.Proof.KernelIdeal

end
-- ==== Proof.KernelIdealFrame.lean ====
module

public import proofs.«01_k».proof.Proof.KernelBlock
public import Idealize.ShloMosaic.Lib.Claim
public import proofs.«01_k».proof.Proof.Gen.KernelIdeal.Frame
public import proofs.«01_k».proof.Proof.Gen.KernelIdeal.Loops
public import proofs.«01_k».proof.Proof.Gen.KernelIdeal.Skeleton

@[expose] public section

set_option maxRecDepth 16384

noncomputable section

namespace Cert.Proof.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The three scratch buffers as whole memrefs: two work buffers and the state carried along a row of points. -/
abbrev wA : Memref sig .tc .vmem S256x16x1024 .f32 := Memref.whole cc0_scratch0
abbrev wB : Memref sig .tc .vmem S256x16x1024 .f32 := Memref.whole cc0_scratch1
abbrev wH : Memref sig .tc .vmem S16x1024 .f32 := Memref.whole cc0_scratch2

/-- What the region hands every point: the three scratch buffers at some contents, and the generator register. -/
theorem rest_eq (c : Dev nD) :
    (Pipeline.ΦA spec0 c : sProp 𝕄)
      = iprop(iprop((∃ d, owns (c : Thread nD τ) wA fullShare d) ∗ (∃ d, owns (c : Thread nD τ) wB fullShare d) ∗ (∃ d, owns (c : Thread nD τ) wH fullShare d)) ∗ (∃ r, prngReg c r)) := by
  unfold Pipeline.ΦA; rw [scopedRest0_eq]; simp only [wA, wB, wH, owns_whole]; try rfl

/-- The body's branch is taken exactly at the points where a row of blocks begins. -/
theorem first_iff (t : Fin cfg0.N) : first (grid0.coords t) ↔ t.val % 8 = 0 := by
  have e1 : (grid0.coords t (1 : Fin 2)).val = t.val / 1 % 8 := Pipeline.Grid.coords_val t 1 (by decide) rfl
  have hN : t.val < 16 := lt_of_lt_of_eq t.isLt N_0
  simp only [first, e1]
  word_cmp

/-- Point `t`'s decay factors and driving terms. -/
def decAt (c : Dev nD) (t : Fin cfg0.N) : S256x16x1024.Idx → EReal := dec (iblk m c 0 t) (iblk m c 1 t) (iblk m c 2 t) (iblk m c 3 t)
def drvAt (c : Dev nD) (t : Fin cfg0.N) : S256x16x1024.Idx → EReal := drv (iblk m c 0 t) (iblk m c 1 t) (iblk m c 2 t) (iblk m c 3 t)

/-- The state's buffer before point `n`: what the point before left, each row of blocks starting from zero. -/
def carry (c : Dev nD) : ℕ → S16x1024.Idx → EReal
  | 0 => fun _ => 0
  | n + 1 => if hn : n < cfg0.N then hrec (decAt m c ⟨n, hn⟩) (drvAt m c ⟨n, hn⟩) (if n % 8 = 0 then fun _ => 0 else carry c n) 256 else fun _ => 0

/-- The state that point `t` computes from: zero where a row of blocks begins, else what the point before left. -/
def enter (c : Dev nD) (n : ℕ) : S16x1024.Idx → EReal := if n % 8 = 0 then fun _ => 0 else carry m c n

theorem carry_succ (c : Dev nD) (t : Fin cfg0.N) : carry m c (t.val + 1) = hrec (decAt m c t) (drvAt m c t) (enter m c t.val) 256 := by
  rw [carry, dif_pos t.isLt]; rfl

/-- The block of results that point `t` stores. -/
def outAt (c : Dev nD) (t : Fin cfg0.N) : Vec Ideal S1x256x1024 .f32 :=
  outs (k0_pay2 (F := Ideal) (iblk m c 0 t)) (k0_pay5 (F := Ideal) (iblk m c 0 t) (iblk m c 1 t)) (states (decAt m c t) (drvAt m c t) (enter m c t.val)) (iblk m c 4 t)

/-- What the points hand on: before the first everything at anything; afterwards the state's buffer at the state. -/
def handed (c : Dev nD) : (n : ℕ) → n ≤ cfg0.N → sProp 𝕄
  | 0, _ => Pipeline.ΦA spec0 c
  | n + 1, _ => iprop(iprop((∃ d, owns (c : Thread nD τ) wA fullShare d) ∗ (∃ d, owns (c : Thread nD τ) wB fullShare d) ∗ owns (c : Thread nD τ) wH fullShare (carry m c (n + 1))) ∗ (∃ r, prngReg c r))

/-- The proof data: the arrays as the region finds them, each input's buffer at its block after every point, the
    output's at the block of results, the state's buffer at the state between points. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := handed m c t.val (Nat.le_of_lt_succ t.isLt)
  q _ := fullShare
  owed _ := 0

theorem handed_before (c : Dev nD) (t : Fin cfg0.N) : (dats m 0 c).Φ t.castSucc = handed m c t.val (Nat.le_of_lt t.isLt) := by
  dsimp only [dats]; exact Pipeline.Dat.Φ_castSucc (handed m c) t

/-- Before any point the scratch buffers are at some contents, and where a row of blocks goes on the state's is at the state. -/
theorem handed_any (c : Dev nD) (n : ℕ) (hn : n ≤ cfg0.N) : handed m c n hn ⊢
    iprop(iprop((∃ d, owns (c : Thread nD τ) wA fullShare d) ∗ (∃ d, owns (c : Thread nD τ) wB fullShare d) ∗ (∃ d, ⌜n % 8 ≠ 0 → d = carry m c n⌝ ∗ owns (c : Thread nD τ) wH fullShare d)) ∗ (∃ r, prngReg c r)) := by
  cases n with
  | zero =>
    unfold handed; rw [rest_eq]
    iintro ⟨⟨HA, HB, ⟨%d, HH⟩⟩, Hg⟩
    isplitl [HA HB HH]
    · isplitl [HA]; · iexact HA
      isplitl [HB]; · iexact HB
      iexists d; isplitr
      · ipureintro; intro h; exact absurd rfl h
      iexact HH
    iexact Hg
  | succ n =>
    unfold handed
    iintro ⟨⟨HA, HB, HH⟩, Hg⟩
    isplitl [HA HB HH]
    · isplitl [HA]; · iexact HA
      isplitl [HB]; · iexact HB
      iexists _; isplitr
      · ipureintro; intro _; rfl
      iexact HH
    iexact Hg

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d

theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d

theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d

theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d

theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d

theorem after5 (c : Dev nD) (t : Fin cfg0.N) : (dats m 0 c).after 5 t = outAt m c t := by dsimp only [dats]

set_option maxHeartbeats 3200000 in
/-- The body at any point, from the inputs' buffers at their blocks and the state's buffer at the state, hands the inputs'
    buffers back as they were, the output's at its block and the state's at the next state: the run of whichever of its two cases the point is in. -/
theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d)))
    ⊢ wp frame (wpE (defs₀ (F := Ideal)) Variants.none c none) Set.univ (bodyAt0 t) (fun _ =>
      iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t)
        ∗ owns (c : Thread nD τ) (st0_2 t) fullShare ((dats m 0 c).after 2 t)
        ∗ owns (c : Thread nD τ) (st0_3 t) fullShare ((dats m 0 c).after 3 t)
        ∗ owns (c : Thread nD τ) (st0_4 t) fullShare ((dats m 0 c).after 4 t)
        ∗ owns (c : Thread nD τ) (st0_5 t) fullShare ((dats m 0 c).after 5 t))) := by
  unfold bodyAt0
  simp only [before0, before1, before2, before3, before4]
  rw [show (dats m 0 c).owesAt () t.succ = (dats m 0 c).owesAt () t.castSucc from rfl,
    after0, after1, after2, after3, after4, after5]
  rw [handed_before, show (dats m 0 c).Φ t.succ = handed m c (t.val + 1) t.isLt from rfl]
  refine (sep_mono_left (handed_any m c t.val _)).trans ?_
  rw [handed]
  by_cases hc : first (grid0.coords t)
  · iintro ⟨⟨⟨⟨%d8, HA⟩, ⟨%d9, HB⟩, ⟨%dh, %hdh, HH⟩⟩, Hg⟩, Ho, ⟨%e0, H0⟩, ⟨%e1, H1⟩, ⟨%e2, H2⟩, ⟨%e3, H3⟩, ⟨%e4, H4⟩, ⟨%e5, H5⟩⟩
    ihave ⟨%g8, -, HA⟩ := (show owns (c : Thread nD τ) wA fullShare d8 ⊢ iprop(∃ g, ⌜wA.view.read (Elt Ideal) g = d8⌝ ∗ (wA.view.loc (c : Thread nD τ) ↦[wA.view.set]{fullShare} g)) from by unfold owns; exact .rfl) $$ HA
    ihave ⟨%g9, -, HB⟩ := (show owns (c : Thread nD τ) wB fullShare d9 ⊢ iprop(∃ g, ⌜wB.view.read (Elt Ideal) g = d9⌝ ∗ (wB.view.loc (c : Thread nD τ) ↦[wB.view.set]{fullShare} g)) from by unfold owns; exact .rfl) $$ HB
    iapply ((runA c (grid0.coords t) _ _ _ _ _ _ _ _ _ _ _ _ wA (Memref.isWhole_whole _) wB (Memref.isWhole_whole _) wH (Memref.isWhole_whole _) hc (iblk m c 0 t) (iblk m c 1 t) (iblk m c 2 t) (iblk m c 3 t) (iblk m c 4 t) dh g8 g9).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HA]; · iexact HA
    isplitl [HB]; · iexact HB
    isplitl [HH]; · iexact HH
    iintro ⟨H0, H1, H2, H3, H4, ⟨%f5, H5⟩, HA, HB, ⟨%fh, HH⟩⟩
    have en : (fun _ => 0 : S16x1024.Idx → EReal) = enter m c t.val := by
      rw [enter, if_pos ((first_iff t).mp hc)]
    have e1 := (runA_state c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) wA (Memref.isWhole_whole _) wB (Memref.isWhole_whole _) wH (Memref.isWhole_whole _) (iblk m c 0 t) (iblk m c 1 t) (iblk m c 2 t) (iblk m c 3 t) (iblk m c 4 t) dh g8 g9 hc fh).trans ((congrArg (fun h => hrec _ _ h 256) en).trans (carry_succ m c t).symm)
    obtain ⟨sl, es, hs⟩ := runA_out c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) wA (Memref.isWhole_whole _) wB (Memref.isWhole_whole _) wH (Memref.isWhole_whole _) (iblk m c 0 t) (iblk m c 1 t) (iblk m c 2 t) (iblk m c 3 t) (iblk m c 4 t) dh g8 g9 hc
    rw [en] at hs
    have e2 := (congrArg (fun L => (st0_5 t).view.read (Elt Ideal) ((st0_5 t).view.writes (Elt Ideal) f5 L)) es).trans (out_read (st0_5 t) f5 (iblk m c 0 t) (iblk m c 1 t) (iblk m c 4 t) sl _ hs)
    isplitl [HA HB HH Hg]
    · isplitl [HA HB HH]
      · isplitl [HA]; · iexact HA
        isplitl [HB]; · iexact HB
        unfold owns; iexists _; isplitr; swap; · iexact HH
        ipureintro; exact e1
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr; swap; · iexact H5
    ipureintro; exact e2
  · iintro ⟨⟨⟨⟨%d8, HA⟩, ⟨%d9, HB⟩, ⟨%dh, %hdh, HH⟩⟩, Hg⟩, Ho, ⟨%e0, H0⟩, ⟨%e1, H1⟩, ⟨%e2, H2⟩, ⟨%e3, H3⟩, ⟨%e4, H4⟩, ⟨%e5, H5⟩⟩
    ihave ⟨%g8, -, HA⟩ := (show owns (c : Thread nD τ) wA fullShare d8 ⊢ iprop(∃ g, ⌜wA.view.read (Elt Ideal) g = d8⌝ ∗ (wA.view.loc (c : Thread nD τ) ↦[wA.view.set]{fullShare} g)) from by unfold owns; exact .rfl) $$ HA
    ihave ⟨%g9, -, HB⟩ := (show owns (c : Thread nD τ) wB fullShare d9 ⊢ iprop(∃ g, ⌜wB.view.read (Elt Ideal) g = d9⌝ ∗ (wB.view.loc (c : Thread nD τ) ↦[wB.view.set]{fullShare} g)) from by unfold owns; exact .rfl) $$ HB
    iapply ((runB c (grid0.coords t) _ _ _ _ _ _ _ _ _ _ _ _ wA (Memref.isWhole_whole _) wB (Memref.isWhole_whole _) wH (Memref.isWhole_whole _) hc (iblk m c 0 t) (iblk m c 1 t) (iblk m c 2 t) (iblk m c 3 t) (iblk m c 4 t) dh g8 g9).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HA]; · iexact HA
    isplitl [HB]; · iexact HB
    isplitl [HH]; · iexact HH
    iintro ⟨H0, H1, H2, H3, H4, ⟨%f5, H5⟩, HA, HB, ⟨%fh, HH⟩⟩
    have en : (dh : S16x1024.Idx → EReal) = enter m c t.val := by
      rw [hdh fun h => hc ((first_iff t).mpr h), enter, if_neg fun h => hc ((first_iff t).mpr h)]
    have e1 := (runB_state c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) wA (Memref.isWhole_whole _) wB (Memref.isWhole_whole _) wH (Memref.isWhole_whole _) (iblk m c 0 t) (iblk m c 1 t) (iblk m c 2 t) (iblk m c 3 t) (iblk m c 4 t) dh g8 g9 hc fh).trans ((congrArg (fun h => hrec _ _ h 256) en).trans (carry_succ m c t).symm)
    obtain ⟨sl, es, hs⟩ := runB_out c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) wA (Memref.isWhole_whole _) wB (Memref.isWhole_whole _) wH (Memref.isWhole_whole _) (iblk m c 0 t) (iblk m c 1 t) (iblk m c 2 t) (iblk m c 3 t) (iblk m c 4 t) dh g8 g9 hc
    rw [en] at hs
    have e2 := (congrArg (fun L => (st0_5 t).view.read (Elt Ideal) ((st0_5 t).view.writes (Elt Ideal) f5 L)) es).trans (out_read (st0_5 t) f5 (iblk m c 0 t) (iblk m c 1 t) (iblk m c 4 t) sl _ hs)
    isplitl [HA HB HH Hg]
    · isplitl [HA HB HH]
      · isplitl [HA]; · iexact HA
        isplitl [HB]; · iexact HB
        unfold owns; iexists _; isplitr; swap; · iexact HH
        ipureintro; exact e1
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr; swap; · iexact H5
    ipureintro; exact e2

/-- The body table's row at a point's buffers is the body called there. -/
theorem row (t : Fin cfg0.N) : defs₀ (F := Ideal) .tc cfg0.body (cfg0.bodyArgs t (cfg0.slots t)) = bodyAt0 t := by
  unfold defs₀; rw [Defs.onTc_tc]

/-- The body obligation at every point. -/
theorem body_obligation (c : Dev nD) : BodyObligation (dats m 0 c) (defs₀ (F := Ideal)) Variants.none () Set.univ := fun t => by
  rw [bigSep_W0, bigSep_W0, row]
  exact triple_restated (sound_body m c t) rfl .rfl fun _ => .rfl

/-- What the region hands in is what the first point is handed. -/
theorem handed_in (c : Dev nD) : Pipeline.ΦA spec0 c ⊢ (dats m 0 c).Φ 0 := by
  rw [show (dats m 0 c).Φ 0 = handed m c 0 (Nat.zero_le _) from rfl, handed]

/-- What the last point hands on is what the region takes back, the state forgotten. -/
theorem handed_out (c : Dev nD) : (dats m 0 c).Φ (Fin.last cfg0.N) ⊢ Pipeline.ΦA spec0 c := by
  rw [show (dats m 0 c).Φ (Fin.last cfg0.N) = handed m c cfg0.N le_rfl from rfl, rest_eq]
  refine (handed_any m c _ _).trans ?_
  iintro ⟨⟨HA, HB, ⟨%d, -, HH⟩⟩, Hg⟩
  isplitl [HA HB HH]
  · isplitl [HA]; · iexact HA
    isplitl [HB]; · iexact HB
    iexists d; iexact HH
  iexact Hg

set_option backward.isDefEq.respectTransparency.types false in
/-- Every execution ends, every window's array is at what the points left in it, and every counter is zero. -/
theorem run_main : θ_run defs (onTc (τ := τ) (main (F := Ideal))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := handed_in m) (hout := handed_out m)

/-- The kernel's run: every execution ends, the result's array at what the points left in it, the six arguments
    unchanged and every semaphore counter at zero. -/
theorem run : θ_run defs (onTc (τ := τ) (main (F := Ideal))) ⟨m, fun _ => 0, ρ⟩ (fun r => (∀ c : Dev nD,
      r.2.mem ((c.tc : Thread nD τ).loc main_v2) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    ⟨(h.1 c).1 5,
     ((h.1 c).1 0).trans (((dats m 0 c).arrAt_in 0 rfl _).trans ((A_eq m c 0).trans (V_main_arg0 m c))),
     ((h.1 c).1 1).trans (((dats m 0 c).arrAt_in 1 rfl _).trans ((A_eq m c 1).trans (V_main_arg1 m c))),
     ((h.1 c).1 2).trans (((dats m 0 c).arrAt_in 2 rfl _).trans ((A_eq m c 2).trans (V_main_arg2 m c))),
     ((h.1 c).2 main_arg3 (Pipeline.mem_restRefs_of main_arg3 (by decide) (by decide))).trans (V_main_arg3 m c),
     ((h.1 c).2 main_arg4 (Pipeline.mem_restRefs_of main_arg4 (by decide) (by decide))).trans (V_main_arg4 m c),
     ((h.1 c).2 main_arg5 (Pipeline.mem_restRefs_of main_arg5 (by decide) (by decide))).trans (V_main_arg5 m c)⟩, h.2⟩) (run_main m ρ)

end Cert.Proof.KernelIdeal

end
-- ==== Proof.KernelValue.lean ====
module

public import proofs.«01_k».proof.Proof.KernelIdealFrame
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ)

/-! # The blocks at coordinates, and the array of results -/

/-- The block indices of the windows: point `t` is block `t % 8` of row `t / 8`. -/
theorem index_0 : ∀ t : Fin cfg0.N, win0_0.index t = ![t.val / 8, t.val % 8, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![t.val / 8, t.val % 8, 0] := (by decide +kernel : ∀ t : Fin grid0.N, _)

theorem points (t : Fin cfg0.N) : t.val < 16 := lt_of_lt_of_eq t.isLt N_0

/-- Point `t`'s row of the batch, and its block's row `r` in the sequence. -/
abbrev rowAt (t : Fin cfg0.N) : Fin 2 := ⟨t.val / 8, by have := points t; omega⟩
abbrev seqAt (t : Fin cfg0.N) (r : Fin 256) : Fin 2048 := ⟨256 * (t.val % 8) + r.val, by omega⟩

theorem iblk_0 (c : Dev nD) (t : Fin cfg0.N) (z : Fin 1) (r : Fin 256) (d : Fin 1024) :
    iblk m c 0 t (ix3 z r d) = m ((c.tc : Thread nD τ).loc main_arg0) (ix3 (rowAt t) (seqAt t r) d) := by
  blk_ext [iblk, V, index_0 t]

theorem iblk_1 (c : Dev nD) (t : Fin cfg0.N) (k : Fin 96) (d : Fin 1024) :
    iblk m c 1 t (ix2 k d) = m ((c.tc : Thread nD τ).loc main_arg1) (ix2 k d) := by
  blk_ext [iblk, V, index_1 t]

theorem iblk_2 (c : Dev nD) (t : Fin cfg0.N) (d : Fin 1024) (k : Fin 64) :
    iblk m c 2 t (ix2 d k) = m ((c.tc : Thread nD τ).loc main_arg2) (ix2 d k) := by
  blk_ext [iblk, V, index_2 t]

theorem iblk_3 (c : Dev nD) (t : Fin cfg0.N) (z : Fin 1) (d : Fin 1024) :
    iblk m c 3 t (ix2 z d) = m ((c.tc : Thread nD τ).loc main_arg3) (ix1 d) := by
  blk_ext! [iblk, V, index_3 t]

theorem iblk_4 (c : Dev nD) (t : Fin cfg0.N) (z : Fin 1) (d : Fin 1024) :
    iblk m c 4 t (ix2 z d) = m ((c.tc : Thread nD τ).loc main_arg5) (ix1 d) := by
  blk_ext! [iblk, V, index_4 t]

/-- The point that stores row `l` of batch `b`. -/
abbrev pointOf (b : Fin 2) (l : Fin 2048) : Fin cfg0.N := ⟨8 * b.val + l.val / 256, by rw [show cfg0.N = 16 from N_0]; omega⟩

/-- The array of results: each row from the point that stores it. -/
def result (c : Dev nD) : S2x2048x1024.Idx → EReal :=
  fun y => outAt m c (pointOf (y 0) (y 1)) (ix3 0 ⟨(y 1).val % 256, Nat.mod_lt _ (by decide)⟩ (y 2))

/-- After every write-back the array of results is `result`. -/
theorem result_eq (c : Dev nD) : (dats m 0 c).arrAt 5 cfg0.N = result m c := by
  refine (dats m 0 c).arrAt_eq_of_covers 5 _ (by decide +kernel) fun t hf y => ?_
  blk_simp
  rw [after5]
  obtain ⟨z, r, d, rfl⟩ : ∃ (z : Fin 1) (r : Fin 256) (d : Fin 1024), y = ix3 z r d := ⟨y 0, y 1, y 2, eq_ix3 y⟩
  have he : (win0_5.blk t).view.emb (ix3 z r d) = ix3 (rowAt t) (seqAt t r) d := by blk_ext [index_5 t]
  rw [he]
  have ht : t.val < 16 := points t
  have hp : pointOf (rowAt t) (seqAt t r) = t := Fin.ext (by simp only [pointOf, rowAt, seqAt]; omega)
  have hr : (⟨(256 * (t.val % 8) + r.val) % 256, Nat.mod_lt _ (by decide)⟩ : Fin 256) = r := Fin.ext (by simp only []; omega)
  have hz : z = 0 := Subsingleton.elim _ _
  subst hz
  show _ = outAt m c (pointOf (rowAt t) (seqAt t r)) (ix3 0 ⟨(256 * (t.val % 8) + r.val) % 256, _⟩ d)
  rw [hp, hr]

end Cert.Proof.KernelIdeal

end
-- ==== Proof.Spec.lean ====
/-
  The selective scan over the extended reals, on curried functions: the three projections of a row, the step size, the
  decay and drive of one state entry, the recurrence along the sequence, and the result.
-/
module

public import Idealize.ShloMosaic.PureOps.Ideal

@[expose] public section

noncomputable section

namespace Cert.Proof.Spec

open Idealize.ShloMosaic

/-- The recurrence `h ← A l · h + X l` from zero, after `k` of the 2048 rows. -/
def scan (A X : Fin 2048 → EReal) : ℕ → EReal
  | 0 => 0
  | k + 1 => if hk : k < 2048 then A ⟨k, hk⟩ * scan A X k + X ⟨k, hk⟩ else scan A X k

/-- The recurrence's next value at a row of the sequence. -/
theorem scan_succ (A X : Fin 2048 → EReal) (l : Fin 2048) :
    scan A X (l.val + 1) = A l * scan A X l.val + X l := dif_pos l.isLt

/-- The softplus of `z`, in the form that does not overflow. -/
def soft (z : EReal) : EReal := max z 0 + Ideal.log1p (Ideal.exp (-max z (-z)))

variable (x : Fin 2 → Fin 2048 → Fin 1024 → EReal) (w : Fin 96 → Fin 1024 → EReal) (v : Fin 1024 → Fin 64 → EReal)
  (q : Fin 1024 → EReal) (a : Fin 1024 → Fin 16 → EReal) (p : Fin 1024 → EReal)

/-- Row `l` of batch `b` against row `k` of the projection. -/
def proj (b : Fin 2) (l : Fin 2048) (k : Fin 96) : EReal := ∑ j, x b l j * w k j

/-- The step size before its softplus. -/
def pre (b : Fin 2) (l : Fin 2048) (d : Fin 1024) : EReal :=
  (∑ k : Fin 64, proj x w b l ⟨k.val, by omega⟩ * v d k) + q d

/-- The input and output coefficients of state entry `n`. -/
def coefB (b : Fin 2) (l : Fin 2048) (n : Fin 16) : EReal := proj x w b l ⟨64 + n.val, by omega⟩
def coefC (b : Fin 2) (l : Fin 2048) (n : Fin 16) : EReal := proj x w b l ⟨80 + n.val, by omega⟩

/-- The decay and the drive of state entry `n` of channel `d` at row `l`. -/
def decay (b : Fin 2) (d : Fin 1024) (n : Fin 16) (l : Fin 2048) : EReal :=
  Ideal.exp (soft (pre x w v q b l d) * -Ideal.exp (a d n))
def drive (b : Fin 2) (d : Fin 1024) (n : Fin 16) (l : Fin 2048) : EReal :=
  soft (pre x w v q b l d) * coefB x w b l n * x b l d

/-- The result: the state after row `l` read through the output coefficients, and the skip term. -/
def value (b : Fin 2) (l : Fin 2048) (d : Fin 1024) : EReal :=
  (∑ n : Fin 16, scan (decay x w v q a b d n) (drive x w v q b d n) (l.val + 1) * coefC x w b l n) + x b l d * p d

end Cert.Proof.Spec

end
-- ==== Proof.Softplus.lean ====
/-
  The two forms of the step size: the kernel's, in base two with a linear branch, and the softplus. They agree up to the
  factor `log 2` where the linear branch is not taken; and the two forms of the decay agree with them.
-/
module

public import proofs.«01_k».proof.Proof.Spec

@[expose] public section

noncomputable section

namespace Cert.Proof.Spec

open Idealize.ShloMosaic

/-- The step size of `z` over `log 2`, as computed in base two; linear above `top`. -/
def gain (top z : EReal) : EReal :=
  let u := z * (((Real.log 2)⁻¹ : ℝ) : EReal)
  if top < u then u else Ideal.log (1 + Ideal.exp2 u) * (((Real.log 2)⁻¹ : ℝ) : EReal)

theorem log2_pos : 0 < Real.log 2 := Real.log_pos (by norm_num)

/-- The softplus of a real number. -/
theorem soft_coe (r : ℝ) : soft (r : EReal) = ((Real.log (1 + Real.exp r) : ℝ) : EReal) := by
  have hm : max (r : EReal) (-(r : EReal)) = ((|r| : ℝ) : EReal) := by
    rw [← EReal.coe_neg, abs_eq_max_neg]; exact (EReal.coe_strictMono.monotone.map_max).symm
  have h0 : max (r : EReal) 0 = ((max r 0 : ℝ) : EReal) :=
    (EReal.coe_strictMono.monotone.map_max (a := r) (b := 0)).symm
  have he : (1 : EReal) + ((Real.exp (-|r|) : ℝ) : EReal) = ((1 + Real.exp (-|r|) : ℝ) : EReal) := by
    rw [EReal.coe_add, EReal.coe_one]
  have hp : 0 < 1 + Real.exp (-|r|) := by positivity
  unfold soft Ideal.log1p
  rw [hm, h0, ← EReal.coe_neg, Ideal.exp_coe, he, Ideal.log_coe, if_neg (not_le.mpr hp), ← EReal.coe_add]
  congr 1
  rcases le_total 0 r with h | h
  · rw [max_eq_left h, abs_of_nonneg h]
    rw [show r + Real.log (1 + Real.exp (-r)) = Real.log (Real.exp r * (1 + Real.exp (-r))) by
      rw [Real.log_mul (Real.exp_pos r).ne' (by positivity), Real.log_exp]]
    congr 1
    rw [mul_add, mul_one, ← Real.exp_add, add_neg_cancel, Real.exp_zero, add_comm]
  · rw [max_eq_right h, abs_of_nonpos h, neg_neg, zero_add]

/-- The softplus at minus infinity. -/
theorem soft_bot : soft ⊥ = ((0 : ℝ) : EReal) := by
  unfold soft Ideal.log1p
  have h1 : (1 : EReal) + 0 = ((1 : ℝ) : EReal) := by rw [add_zero, EReal.coe_one]
  simp only [EReal.neg_bot, max_eq_right (bot_le : (⊥ : EReal) ≤ ⊤), max_eq_right (bot_le : (⊥ : EReal) ≤ 0), EReal.neg_top,
    Ideal.exp_bot, h1, Ideal.log_coe]
  simp

/-- Below the linear branch the step size is a real number, and the base-two form is that number over `log 2`. -/
theorem gain_eq {z : EReal} (hz : z ≤ ((30 * Real.log 2 : ℝ) : EReal)) :
    ∃ r : ℝ, soft z = (r : EReal) ∧ gain ((30 : ℝ) : EReal) z = ((r * (Real.log 2)⁻¹ : ℝ) : EReal) := by
  have hl := log2_pos
  induction z with
  | bot =>
    refine ⟨0, soft_bot, ?_⟩
    have h1 : (1 : EReal) + 0 = ((1 : ℝ) : EReal) := by rw [add_zero, EReal.coe_one]
    have hu : (⊥ : EReal) * (((Real.log 2)⁻¹ : ℝ) : EReal) = ⊥ := EReal.bot_mul_coe_of_pos (inv_pos.mpr hl)
    unfold gain
    simp only [hu, Ideal.exp2_bot, h1, Ideal.log_coe]
    simp
  | top => exact absurd hz (not_le.mpr (EReal.coe_lt_top _))
  | coe r =>
    refine ⟨_, soft_coe r, ?_⟩
    have hr : r ≤ 30 * Real.log 2 := EReal.coe_le_coe_iff.mp hz
    have hu : (r : EReal) * (((Real.log 2)⁻¹ : ℝ) : EReal) = ((r * (Real.log 2)⁻¹ : ℝ) : EReal) := (EReal.coe_mul _ _).symm
    have h30 : ¬ ((30 : ℝ) : EReal) < ((r * (Real.log 2)⁻¹ : ℝ) : EReal) := by
      rw [EReal.coe_lt_coe_iff, not_lt, ← div_eq_mul_inv, div_le_iff₀ hl]; exact hr
    have h2 : Real.rpow 2 (r * (Real.log 2)⁻¹) = Real.exp r := by
      show (2 : ℝ) ^ (r * (Real.log 2)⁻¹) = _
      rw [Real.rpow_def_of_pos (by norm_num)]
      congr 1; field_simp
    have he : (1 : EReal) + ((Real.exp r : ℝ) : EReal) = ((1 + Real.exp r : ℝ) : EReal) := by
      rw [EReal.coe_add, EReal.coe_one]
    have hp : 0 < 1 + Real.exp r := by positivity
    unfold gain
    simp only [hu, if_neg h30, Ideal.exp2_coe, h2, he, Ideal.log_coe, if_neg (not_le.mpr hp), ← EReal.coe_mul]

/-- The base-two step size times `log 2` is the softplus. -/
theorem gain_mul {z : EReal} (hz : z ≤ ((30 * Real.log 2 : ℝ) : EReal)) :
    gain ((30 : ℝ) : EReal) z * ((Real.log 2 : ℝ) : EReal) = soft z := by
  obtain ⟨r, hs, hg⟩ := gain_eq hz
  rw [hs, hg, ← EReal.coe_mul, mul_assoc, inv_mul_cancel₀ log2_pos.ne', mul_one]

/-- The base-two decay by the integer rate `q` is the decay at the logarithm of `q`. -/
theorem gain_decay {z : EReal} (hz : z ≤ ((30 * Real.log 2 : ℝ) : EReal)) {q : ℝ} (hq : 0 < q) :
    Ideal.exp2 (gain ((30 : ℝ) : EReal) z * (0 - (q : EReal)))
      = Ideal.exp (soft z * -Ideal.exp (Ideal.log (q : EReal))) := by
  obtain ⟨r, hs, hg⟩ := gain_eq hz
  rw [hs, hg, Ideal.log_coe, if_neg (not_le.mpr hq), Ideal.exp_coe, Real.exp_log hq, zero_sub, ← EReal.coe_neg,
    ← EReal.coe_mul, ← EReal.coe_mul, Ideal.exp_coe, Ideal.exp2_coe]
  congr 1
  show (2 : ℝ) ^ (r * (Real.log 2)⁻¹ * -q) = _
  rw [Real.rpow_def_of_pos (by norm_num)]
  congr 1
  have := log2_pos.ne'
  field_simp

end Cert.Proof.Spec

end
-- ==== Proof.Drawn.lean ====
/-
  What the precondition says at coordinates: the rates' logarithms are those of 1, …, 16, and the step size before its
  softplus is at most `30 · log 2`.
-/
module

public import proofs.«01_k».proof.Proof.Gen.Pre_drawn
public import proofs.«01_k».proof.Proof.Spec
public import Idealize.ShloMosaic.Lib.Pointwise
public import Idealize.ShloMosaic.Lib.IdealHost
public import Idealize.ShloMosaic.Lib.WordArith
public import Idealize.ShloMosaic.Lib.DynamicIndex

@[expose] public section

noncomputable section

namespace Cert.Proof.Drawn

open Idealize.ShloMosaic Cert.Pre_drawn Cert.Pre_drawn.Gen

/-- The two numbers of the bound. -/
theorem thirty : Ideal.ofBits .f32 0x41F00000#32 = ((30 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num

variable (x : FVec Ideal S2x2048x1024 .f32) (w : FVec Ideal S96x1024 .f32) (v : FVec Ideal S1024x64 .f32)
  (q : FVec Ideal S1024 .f32) (a : FVec Ideal S1024x16 .f32) (p : FVec Ideal S1024 .f32)

/-- The rates. -/
theorem rates (h : (fn x w v q a p).1 = fun _ => 1#1) (d : Fin 1024) (n : Fin 16) :
    a (ix2 d n) = Ideal.log ((((n.val : ℝ) + 1 : ℝ)) : EReal) := by
  have h' := congrFun h (ix2 d n)
  revert h'
  unfold fn
  pointwise
  intro h'
  have he : a (ix2 d n) = Ideal.log (1 + FloatOps.sitofp (F := Ideal) .f32 (BitVec.ofNat 32 n.val)) := by
    simpa only [WordArith.ofBool_eq_one_iff, decide_eq_true_eq] using h'
  rw [he]
  congr 1
  show (1 : EReal) + (((BitVec.ofNat 32 n.val).toInt : ℝ) : EReal) = _
  rw [toInt_ofNat_of_lt (by omega), ← EReal.coe_one, ← EReal.coe_add]
  congr 1
  push_cast
  ring

/-- The bound. -/
theorem bound (h : (fn x w v q a p).2 = fun _ => 1#1) (b : Fin 2) (l : Fin 2048) (d : Fin 1024) :
    Spec.pre (fun b l d => x (ix3 b l d)) (fun k j => w (ix2 k j)) (fun d k => v (ix2 d k)) (fun d => q (ix1 d)) b l d
      ≤ ((30 * Real.log 2 : ℝ) : EReal) := by
  have h' := congrFun h (ix3 b l d)
  revert h'
  unfold fn
  pointwise
  intro h'
  have hl : Ideal.ofBits .f32 0x41F00000#32 * Ideal.log (Ideal.ofBits .f32 0x40000000#32) = ((30 * Real.log 2 : ℝ) : EReal) := by
    rw [thirty, two, Ideal.log_coe, if_neg (by norm_num), ← EReal.coe_mul]
  unfold Spec.pre Spec.proj
  rw [← hl]
  simpa only [WordArith.ofBool_eq_one_iff, decide_eq_true_eq] using h'

end Cert.Proof.Drawn

end
-- ==== Proof.KernelSum.lean ====
/-
  The kernel's result is the selective scan's value of its arguments, where the rates are 1, …, 16 and the step size
  stays off the linear branch: the block recurrences chained along a row of blocks are the one recurrence of the row.
-/
module

public import proofs.«01_k».proof.Proof.KernelValue
public import proofs.«01_k».proof.Proof.Softplus
public import proofs.«01_k».proof.Proof.Drawn

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ) (c : Dev nD)

/-- The arguments as curried functions. -/
abbrev fx : Fin 2 → Fin 2048 → Fin 1024 → EReal := fun b l d => m ((c.tc : Thread nD τ).loc main_arg0) (ix3 b l d)
abbrev fw : Fin 96 → Fin 1024 → EReal := fun k j => m ((c.tc : Thread nD τ).loc main_arg1) (ix2 k j)
abbrev fv : Fin 1024 → Fin 64 → EReal := fun d k => m ((c.tc : Thread nD τ).loc main_arg2) (ix2 d k)
abbrev fq : Fin 1024 → EReal := fun d => m ((c.tc : Thread nD τ).loc main_arg3) (ix1 d)
abbrev fa : Fin 1024 → Fin 16 → EReal := fun d n => m ((c.tc : Thread nD τ).loc main_arg4) (ix2 d n)
abbrev fp : Fin 1024 → EReal := fun d => m ((c.tc : Thread nD τ).loc main_arg5) (ix1 d)

/-- The two named constants. -/
theorem named_log2e : Named.named (F := Ideal) (φ := .f32) κ "log2e" 0x3FB8AA3B#32 = (((Real.log 2)⁻¹ : ℝ) : EReal) :=
  IdealRules.named_const.ideal_named_scalar κ "log2e" (φ := .f32) _ _ rfl
theorem named_ln2 : Named.named (F := Ideal) (φ := .f32) κ "ln2" 0x3F317218#32 = ((Real.log 2 : ℝ) : EReal) :=
  IdealRules.named_const.ideal_named_scalar κ "ln2" (φ := .f32) _ _ rfl

section Block

variable (x0 : Vec Ideal S1x256x1024 .f32) (x1 : Vec Ideal S96x1024 .f32) (x2 : Vec Ideal S1024x64 .f32)
  (x3 : Vec Ideal S1x1024 .f32) (r : Fin 256) (d : Fin 1024) (n : Fin 16)

/-- The step size over `log 2`, of a block. -/
theorem gain_apply : k0_pay6 x0 x1 x2 x3 (ix2 r d)
    = Spec.gain ((30 : ℝ) : EReal) ((∑ k : Fin 64, (∑ j, x0 (ix3 0 r j) * x1 (ix2 ⟨k.val, by omega⟩ j)) * x2 (ix2 d k)) + x3 (ix2 0 d)) := by
  unfold Spec.gain
  rw [← named_log2e, ← Drawn.thirty]
  pointwise [k0_pay6, k0_pay3, k0_pay2]
  rfl

/-- The step size times the row. -/
theorem drive_apply : k0_pay8 x0 x1 x2 x3 (ix2 r d)
    = k0_pay6 x0 x1 x2 x3 (ix2 r d) * ((Real.log 2 : ℝ) : EReal) * x0 (ix3 0 r d) := by
  rw [← named_ln2]
  pointwise [k0_pay8, k0_pay2]

/-- The input and output coefficients of a block. -/
theorem coefB_apply : k0_pay4 x0 x1 (ix2 r n) = ∑ j, x0 (ix3 0 r j) * x1 (ix2 ⟨64 + n.val, by omega⟩ j) := by
  pointwise [k0_pay4, k0_pay3, k0_pay2]
theorem coefC_apply : k0_pay5 x0 x1 (ix2 r n) = ∑ j, x0 (ix3 0 r j) * x1 (ix2 ⟨80 + n.val, by omega⟩ j) := by
  pointwise [k0_pay5, k0_pay3, k0_pay2]
theorem row_apply' : k0_pay2 x0 (ix2 r d) = x0 (ix3 0 r d) := by
  pointwise [k0_pay2]

/-- The negated rates. -/
theorem rate_apply : k0_pay7 (F := Ideal) (ix3 0 n 0) = 0 - (((n.val : ℝ) + 1 : ℝ) : EReal) := by
  rw [minus_n]
  congr 1
  show (((1#32 + BitVec.ofNat 32 n.val).toInt : ℝ) : EReal) = _
  rw [show (1#32 + BitVec.ofNat 32 n.val) = BitVec.ofNat 32 (1 + n.val) from (BitVec.ofNat_add 1 n.val).symm,
    toInt_ofNat_of_lt (by omega)]
  congr 1
  push_cast
  ring

end Block

/-- The step size before its softplus, at every row. -/
abbrev pre (b : Fin 2) (l : Fin 2048) (d : Fin 1024) : EReal := Spec.pre (fx m c) (fw m c) (fv m c) (fq m c) b l d

theorem pay6_at (t : Fin cfg0.N) (r : Fin 256) (d : Fin 1024) :
    k0_pay6 (iblk m c 0 t) (iblk m c 1 t) (iblk m c 2 t) (iblk m c 3 t) (ix2 r d)
      = Spec.gain ((30 : ℝ) : EReal) (pre m c (rowAt t) (seqAt t r) d) := by
  rw [gain_apply]
  unfold pre Spec.pre Spec.proj
  simp only [iblk_0, iblk_1, iblk_2, iblk_3]

variable (hq : ∀ d n, fa m c d n = Ideal.log (((n.val : ℝ) + 1 : ℝ) : EReal))
  (hz : ∀ b l d, pre m c b l d ≤ ((30 * Real.log 2 : ℝ) : EReal))

include hq hz

/-- Every point's decays and drives are the recurrence's. -/
theorem decAt_apply (t : Fin cfg0.N) (r : Fin 256) (n : Fin 16) (d : Fin 1024) :
    decAt m c t (ix3 r n d)
      = Spec.decay (fx m c) (fw m c) (fv m c) (fq m c) (fa m c) (rowAt t) d n (seqAt t r) := by
  show Ideal.exp2 (k0_pay6 (iblk m c 0 t) (iblk m c 1 t) (iblk m c 2 t) (iblk m c 3 t) (ix2 r d) * k0_pay7 (F := Ideal) (ix3 0 n 0)) = _
  rw [pay6_at, rate_apply, Spec.gain_decay (hz _ _ _) (by positivity), Spec.decay, hq d n]

omit hq in
theorem drvAt_apply (t : Fin cfg0.N) (r : Fin 256) (n : Fin 16) (d : Fin 1024) :
    drvAt m c t (ix3 r n d)
      = Spec.drive (fx m c) (fw m c) (fv m c) (fq m c) (rowAt t) d n (seqAt t r) := by
  show k0_pay4 (iblk m c 0 t) (iblk m c 1 t) (ix2 r n) * k0_pay8 (iblk m c 0 t) (iblk m c 1 t) (iblk m c 2 t) (iblk m c 3 t) (ix2 r d) = _
  rw [drive_apply, pay6_at, Spec.gain_mul (hz _ _ _), coefB_apply, Spec.drive]
  unfold Spec.coefB Spec.proj
  simp only [iblk_0, iblk_1]
  rw [← mul_assoc, mul_comm (∑ j, _) (Spec.soft _)]

/-- The recurrence of state entry `n` of channel `d` in batch `b`. -/
abbrev hist (b : Fin 2) (n : Fin 16) (d : Fin 1024) (k : ℕ) : EReal :=
  Spec.scan (Spec.decay (fx m c) (fw m c) (fv m c) (fq m c) (fa m c) b d n)
    (Spec.drive (fx m c) (fw m c) (fv m c) (fq m c) b d n) k

/-- A block's recurrence continues the row's where it enters with the row's state. -/
theorem hrec_apply (t : Fin cfg0.N) (h : S16x1024.Idx → EReal) (n : Fin 16) (d : Fin 1024)
    (h0 : h (ix2 n d) = hist m c (rowAt t) n d (256 * (t.val % 8))) :
    ∀ k, k ≤ 256 → hrec (decAt m c t) (drvAt m c t) h k (ix2 n d) = hist m c (rowAt t) n d (256 * (t.val % 8) + k)
  | 0, _ => h0
  | k + 1, hk => by
    have hk' : k < 256 := by omega
    have e : hrec (decAt m c t) (drvAt m c t) h (k + 1) (ix2 n d)
        = decAt m c t (ix3 ⟨k, hk'⟩ n d) * hrec (decAt m c t) (drvAt m c t) h k (ix2 n d) + drvAt m c t (ix3 ⟨k, hk'⟩ n d) :=
      dif_pos hk'
    rw [e, decAt_apply m c hq hz, drvAt_apply m c hz, hrec_apply t h n d h0 k (by omega)]
    exact (Spec.scan_succ _ _ (seqAt t ⟨k, hk'⟩)).symm

/-- Every point enters with the row's state. -/
theorem enter_apply (n : Fin 16) (d : Fin 1024) :
    ∀ (k : ℕ) (t : Fin cfg0.N), t.val = k → enter m c t.val (ix2 n d) = hist m c (rowAt t) n d (256 * (t.val % 8)) := by
  intro k
  induction k with
  | zero =>
    intro t ht
    rw [enter, if_pos (by omega), show 256 * (t.val % 8) = 0 by omega]
    rfl
  | succ k ih =>
    intro t ht
    by_cases h8 : t.val % 8 = 0
    · rw [enter, if_pos h8, h8]
      rfl
    · have hp := points t
      have hN : cfg0.N = 16 := N_0
      let u : Fin cfg0.N := ⟨k, by omega⟩
      have hu : enter m c t.val = carry m c (u.val + 1) := by rw [enter, if_neg h8, ht]
      rw [hu, carry_succ, hrec_apply m c hq hz u _ n d (ih u rfl) 256 le_rfl]
      have hrow : rowAt u = rowAt t := Fin.ext (by show k / 8 = t.val / 8; omega)
      have hseq : 256 * (u.val % 8) + 256 = 256 * (t.val % 8) := by show 256 * (k % 8) + 256 = _; omega
      rw [hrow, hseq]

/-- The result at coordinates is the selective scan's value. -/
theorem result_apply (b : Fin 2) (l : Fin 2048) (d : Fin 1024) :
    result m c (ix3 b l d)
      = Spec.value (fx m c) (fw m c) (fv m c) (fq m c) (fa m c) (fp m c) b l d := by
  let t := pointOf b l
  let r : Fin 256 := ⟨l.val % 256, Nat.mod_lt _ (by decide)⟩
  have ht : t.val = 8 * b.val + l.val / 256 := rfl
  have hrow : rowAt t = b := Fin.ext (by show t.val / 8 = _; omega)
  have hseq : seqAt t r = l := Fin.ext (by show 256 * (t.val % 8) + l.val % 256 = _; omega)
  show (∑ n : Fin 16, k0_pay5 (iblk m c 0 t) (iblk m c 1 t) (ix2 r n)
      * hrec (decAt m c t) (drvAt m c t) (enter m c t.val) (r.val + 1) (ix2 n d))
    + k0_pay2 (iblk m c 0 t) (ix2 r d) * iblk m c 4 t (ix2 0 d) = _
  unfold Spec.value
  rw [row_apply', iblk_0, iblk_4, hrow, hseq]
  refine congrArg (fun s => s + fx m c b l d * fp m c d) (Finset.sum_congr rfl fun n _ => ?_)
  rw [hrec_apply m c hq hz t _ n d (enter_apply m c hq hz n d t.val t rfl) (r.val + 1) r.isLt, coefC_apply, hrow,
    show 256 * (t.val % 8) + (r.val + 1) = l.val + 1 by
      have := congrArg Fin.val hseq
      show 256 * (t.val % 8) + (l.val % 256 + 1) = _
      omega]
  unfold Spec.coefC Spec.proj
  simp only [iblk_0, iblk_1, hrow, hseq]
  exact mul_comm _ _

end Cert.Proof.KernelIdeal

end
-- ==== Proof.RefRun.lean ====
/-
  The reference's run over its step. A valuation of the loop HOLDS a state when the carried buffers and the set-up
  arrays are the state's and the counter is the trip's number; one trip keeps it holding with `step` applied; so the
  run's result is the last operations' value at the 2048th state.
-/
module

public import proofs.«01_k».proof.Proof.Gen.ReferenceIdeal.Run
public import proofs.«01_k».proof.Proof.Gen.ReferenceIdeal.Step

@[expose] public section

noncomputable section

namespace Cert.Proof.Ref

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step

variable {F : FTy → Type} [FloatOps F]

/-- The valuation `V0` holds the state `s` and the trip's number `j`. -/
structure Holds (V0 : Valuation τ sig (Elt F)) (s : State F) (j : ℕ) : Prop where
  state : V0 (Proc.devRef .tc main_v30_4) = s.main_v30_4
  rows : V0 (Proc.devRef .tc main_v30_5) = s.main_v30_5
  decay : V0 (Proc.devRef .tc main_v30_0) = s.main_v30_0
  drive : V0 (Proc.devRef .tc main_v30_1) = s.main_v30_1
  gain : V0 (Proc.devRef .tc main_v30_2) = s.main_v30_2
  count : V0 (Proc.devRef .tc main_v30_3) = constantI S_ 32 (BitVec.ofNat 32 j)

variable {V0 : Valuation τ sig (Elt F)} {s : State F} {j : ℕ}

set_option maxRecDepth 8192 in
/-- The trip's new state is `step`'s. -/
theorem step_state (h : Holds V0 s j) : res_main_while0b_v40 V0 = b15 j s := by
  unfold res_main_while0b_v40 b15 b14 b9 b8 b4 b3 b7 b6 b5 b2 b1 b0
  rw [← h.decay, ← h.drive, ← h.state, ← h.count]
  rfl

set_option maxRecDepth 8192 in
/-- The trip's new result rows are `step`'s. -/
theorem step_rows (h : Holds V0 s j) : Value.step_main_v30_5 V0 = b20 j s := by
  unfold Value.step_main_v30_5 b20 b19 b18 b17 b16 b13 b12 b11 b10
  rw [← step_state h, ← h.gain, ← h.rows, ← h.count]
  rfl

/-- The counter's next value is the next trip's number. -/
theorem step_count (h : Holds V0 s j) : step_main_v30_3 V0 = constantI S_ 32 (BitVec.ofNat 32 (j + 1)) := by
  unfold Value.step_main_v30_3
  rw [h.count]
  funext i
  show BitVec.ofNat 32 j + 1#32 = BitVec.ofNat 32 (j + 1)
  simp only [BitVec.ofNat_add]

/-- One trip keeps the valuation holding. -/
theorem holds_next (h : Holds V0 s j) : Holds (STEP V0) (step j s) (j + 1) where
  state := (STEP_main_v30_4 V0).trans (by unfold Value.step_main_v30_4; exact step_state h)
  rows := (STEP_main_v30_5 V0).trans (step_rows h)
  decay := (STEP_main_v30_0 V0).trans h.decay
  drive := (STEP_main_v30_1 V0).trans h.drive
  gain := (STEP_main_v30_2 V0).trans h.gain
  count := (STEP_main_v30_3 V0).trans (step_count h)

/-- The state before the first trip, of the memory the run starts from. -/
abbrev start (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- The state after `k` trips. -/
def iter (s : State F) : ℕ → State F
  | 0 => s
  | k + 1 => step k (iter s k)

variable (m : (ℓ : Loc nD τ sig) → Buf (Elt F) ℓ) (c : Dev nD)

set_option maxRecDepth 65536 in
set_option maxHeartbeats 400000 in
/-- What is computed before the loop holds the starting state at trip 0. -/
theorem holds_start : Holds (entryContents preI m c) (start m c) 0 := by
  constructor <;> (simp only [entryContents, afterL_cons, afterL_nil]; after_reads_simp) <;> rfl

/-- Before every trip the valuation holds the state after the trips before. -/
theorem holds_iter : ∀ k, Holds (STEP^[k] (entryContents preI m c)) (iter (start m c) k) k
  | 0 => holds_start m c
  | k + 1 => by
    rw [Function.iterate_succ_apply']
    exact holds_next (holds_iter k)

set_option maxRecDepth 8192 in
/-- The result is computed from the last state's rows and the arguments `x`, `Dparam`. -/
theorem result_eq (h : Holds V0 s j) {x : (⟨S2x2048x1024, .f32⟩ : BufTy).Contents (Elt F)} (hx : V0 (Proc.devRef .tc main_arg0) = x)
    {d : (⟨S1024, .f32⟩ : BufTy).Contents (Elt F)} (hd : V0 (Proc.devRef .tc main_arg5) = d) : out_main_v35 V0 = R_main_v35 s x d := by
  unfold out_main_v35 R_main_v35
  rw [h.rows, hx, hd]
  try rfl

/-- Every execution of the reference ends with its result computed from the 2048th state, the arguments unchanged. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v35) = R_main_v35 (iter (start m c) 2048) (m ((c.tc : Thread nD τ).loc main_arg0)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨(h c).1.trans (result_eq (holds_iter m c 2048) (iter_main_arg0 m c 2048) (iter_main_arg5 m c 2048)), (h c).2⟩) (Value.run m ρ)

end Cert.Proof.Ref

end
-- ==== Proof.RefRows.lean ====
/-
  The reference's loop at coordinates: the state it carries is the recurrence of the set-up arrays, and row `l` of the
  results is the state after row `l` read through the output coefficients.
-/
module

public import proofs.«01_k».proof.Proof.RefRun
public import proofs.«01_k».proof.Proof.Spec
public import Idealize.ShloMosaic.Lib.Pointwise
public import Idealize.ShloMosaic.Lib.IdealHost
public import Idealize.ShloMosaic.Lib.DynamicIndex
public import Idealize.ShloMosaic.Lib.Pipeline.Value

@[expose] public section

noncomputable section

namespace Cert.Proof.Ref

open Idealize.ShloMosaic Cert.ReferenceIdeal Cert.ReferenceIdeal.Gen Cert.ReferenceIdeal.Step

/-- A row's number, read signed, is itself. -/
theorem row_word (l : Fin 2048) : (BitVec.ofNat 32 l.val).toInt = (l.val : ℤ) := toInt_ofNat_of_lt (by omega)

theorem fits4 (l : Fin 2048) : S2048x2x1024x16.Slices ![l.val, 0, 0, 0] S1x2x1024x16 :=
  ⟨rfl, by intro i; have := l.isLt; fin_cases i <;> simp <;> omega⟩
theorem fits3 (l : Fin 2048) : S2048x2x16.Slices ![l.val, 0, 0] S1x2x16 :=
  ⟨rfl, by intro i; have := l.isLt; fin_cases i <;> simp <;> omega⟩
theorem fitsR (l : Fin 2048) : S2048x2x1024.Slices ![l.val, 0, 0] S1x2x1024 :=
  ⟨rfl, by intro i; have := l.isLt; fin_cases i <;> simp <;> omega⟩

variable (s : State Ideal) (l : Fin 2048) (b : Fin 2) (d : Fin 1024) (n : Fin 16)

/-- The trip's decay, drive and output coefficients are row `l` of the arrays. -/
theorem decay_row : b3 l.val s (ix4 0 b d n) = s.main_v30_0 (ix4 l b d n) := by
  unfold b3
  rw [Host.dynamicSlice_eq_extractStridedSlice _ _ _ ![l.val, 0, 0, 0] _ (fits4 l) (by
    intro i; fin_cases i
    · exact row_word l
    all_goals rfl)]
  pointwise
theorem drive_row : b8 l.val s (ix4 0 b d n) = s.main_v30_1 (ix4 l b d n) := by
  unfold b8
  rw [Host.dynamicSlice_eq_extractStridedSlice _ _ _ ![l.val, 0, 0, 0] _ (fits4 l) (by
    intro i; fin_cases i
    · exact row_word l
    all_goals rfl)]
  pointwise
theorem gain_row : b12 l.val s (ix3 0 b n) = s.main_v30_2 (ix3 l b n) := by
  unfold b12
  rw [Host.dynamicSlice_eq_extractStridedSlice _ _ _ ![l.val, 0, 0] _ (fits3 l) (by
    intro i; fin_cases i
    · exact row_word l
    all_goals rfl)]
  pointwise

/-- The trip's new state, and the row it adds to the results. -/
theorem new_state : b15 l.val s (ix3 b d n)
    = s.main_v30_0 (ix4 l b d n) * s.main_v30_4 (ix3 b d n) + s.main_v30_1 (ix4 l b d n) := by
  rw [← decay_row, ← drive_row]
  pointwise [b15, b14, b9, b4]
theorem new_row : b17 l.val s (ix3 0 b d) = ∑ n, b15 l.val s (ix3 b d n) * s.main_v30_2 (ix3 l b n) := by
  simp only [← gain_row]
  pointwise [b17, b16, b13]

/-- The trip writes its own row of the results and keeps the others. -/
theorem new_rows (k : Fin 2048) : b20 l.val s (ix3 k b d)
    = if k = l then b17 l.val s (ix3 0 b d) else s.main_v30_5 (ix3 k b d) := by
  unfold b20
  rw [Host.dynamicUpdateSlice_eq_updateSlice _ _ _ _ ![l.val, 0, 0] (by
    intro i; fin_cases i
    · show (min (max (BitVec.ofNat 32 l.val).toInt 0) _).toNat = l.val
      rw [row_word l]
      have := l.isLt
      show (min (max (l.val : ℤ) 0) ((2048 - 1 : ℕ) : ℤ)).toNat = l.val
      omega
    all_goals rfl) (fitsR l)]
  pointwise
  by_cases h : k = l
  · subst h
    simp
  · have : ¬ (l.val ≤ k.val ∧ k.val < l.val + 1) := by
      intro hk; exact h (Fin.ext (by omega))
    rw [if_neg h, dif_neg]
    simpa using this

/-- No trip changes the set-up arrays. -/
theorem iter_decay : ∀ k, (iter s k).main_v30_0 = s.main_v30_0
  | 0 => rfl
  | k + 1 => iter_decay k
theorem iter_drive : ∀ k, (iter s k).main_v30_1 = s.main_v30_1
  | 0 => rfl
  | k + 1 => iter_drive k
theorem iter_gain : ∀ k, (iter s k).main_v30_2 = s.main_v30_2
  | 0 => rfl
  | k + 1 => iter_gain k

/-- The state entry's recurrence over the set-up arrays. -/
abbrev entry (k : ℕ) : EReal :=
  Spec.scan (fun l => s.main_v30_0 (ix4 l b d n)) (fun l => s.main_v30_1 (ix4 l b d n)) k

/-- From a zero state, the state after `k` trips is the recurrence. -/
theorem iter_state (h0 : s.main_v30_4 (ix3 b d n) = 0) :
    ∀ k, k ≤ 2048 → (iter s k).main_v30_4 (ix3 b d n) = entry s b d n k
  | 0, _ => h0
  | k + 1, hk => by
    show b15 k (iter s k) (ix3 b d n) = _
    rw [new_state (iter s k) ⟨k, by omega⟩, iter_decay, iter_drive, iter_state h0 k (by omega)]
    exact (Spec.scan_succ (fun l => s.main_v30_0 (ix4 l b d n)) (fun l => s.main_v30_1 (ix4 l b d n)) ⟨k, by omega⟩).symm

/-- Row `l` of the results after more than `l` trips. -/
theorem iter_row (h0 : ∀ n, s.main_v30_4 (ix3 b d n) = 0) :
    ∀ k, k ≤ 2048 → l.val < k →
      (iter s k).main_v30_5 (ix3 l b d) = ∑ n, entry s b d n (l.val + 1) * s.main_v30_2 (ix3 l b n)
  | 0, _, h => absurd h (Nat.not_lt_zero _)
  | k + 1, hk, hl => by
    show b20 (⟨k, by omega⟩ : Fin 2048).val (iter s k) (ix3 l b d) = _
    rw [new_rows]
    by_cases h : l = ⟨k, by omega⟩
    · rw [if_pos h, new_row, iter_gain, h]
      refine Finset.sum_congr rfl fun n _ => ?_
      rw [← iter_state s b d n (h0 n) (k + 1) hk]
      rfl
    · rw [if_neg h]
      exact iter_row h0 k (by omega) (by
        have : l.val ≠ k := fun e => h (Fin.ext e)
        omega)

end Cert.Proof.Ref

end
-- ==== Proof.RefValue.lean ====
/-
  The reference's result is the selective scan's value of its arguments.
-/
module

public import proofs.«01_k».proof.Proof.RefRows

@[expose] public section

noncomputable section

namespace Cert.Proof.Ref

open Idealize.ShloMosaic Idealize.ShloMosaic.TcCoe Cert.ReferenceIdeal Cert.ReferenceIdeal.Gen Cert.ReferenceIdeal.Step

variable (x : (⟨S2x2048x1024, .f32⟩ : BufTy).Contents (Elt Ideal)) (w : (⟨S96x1024, .f32⟩ : BufTy).Contents (Elt Ideal))
  (v : (⟨S1024x64, .f32⟩ : BufTy).Contents (Elt Ideal)) (q : (⟨S1024, .f32⟩ : BufTy).Contents (Elt Ideal))
  (a : (⟨S1024x16, .f32⟩ : BufTy).Contents (Elt Ideal)) (p : (⟨S1024, .f32⟩ : BufTy).Contents (Elt Ideal))
  (b : Fin 2) (l : Fin 2048) (d : Fin 1024) (n : Fin 16)

/-- The arguments as curried functions. -/
abbrev fx : Fin 2 → Fin 2048 → Fin 1024 → EReal := fun b l d => x (ix3 b l d)
abbrev fw : Fin 96 → Fin 1024 → EReal := fun k j => w (ix2 k j)
abbrev fv : Fin 1024 → Fin 64 → EReal := fun d k => v (ix2 d k)
abbrev fq : Fin 1024 → EReal := fun d => q (ix1 d)
abbrev fa : Fin 1024 → Fin 16 → EReal := fun d n => a (ix2 d n)

/-- The step size before and after its softplus. -/
theorem pre_apply : A_main_v7 x w v q a (ix3 b l d) = Spec.pre (fx x) (fw w) (fv v) (fq q) b l d := by
  unfold Spec.pre Spec.proj
  pointwise [A_main_v7, A_main_v6, A_main_v5, A_main_v4, A_main_v1, A_main_v0]
theorem soft_apply : A_main_v8 x w v q a (ix3 b l d) = Spec.soft (Spec.pre (fx x) (fw w) (fv v) (fq q) b l d) := by
  rw [← pre_apply x w v q a]
  refine Eq.trans (b := if A_main_v7 x w v q a (ix3 b l d) ≠ A_main_v7 x w v q a (ix3 b l d) then
    A_main_v7 x w v q a (ix3 b l d) else Spec.soft (A_main_v7 x w v q a (ix3 b l d))) ?_ (if_neg (fun h => h rfl))
  unfold Spec.soft
  pointwise [A_main_v8, A_main_call0_v1, A_main_call0_v3, A_main_call0_v4, A_main_call0_v6, A_main_call0_v7,
    A_main_call0_v8, A_main_call0_v9, A_main_call0_v10, A_main_call0_v11, K_main_call0_v0, K_main_call0_v2,
    K_main_call0_v5, K_main_call0_cst]
  rfl

/-- The loop's set-up arrays. -/
theorem decay_apply : A_main_v25 x w v q a (ix4 l b d n)
    = Spec.decay (fx x) (fw w) (fv v) (fq q) (fa a) b d n l := by
  unfold Spec.decay
  rw [← soft_apply x w v q a]
  pointwise [A_main_v25, A_main_v16, A_main_v15, A_main_v14, A_main_v13, A_main_v12, A_main_v11, A_main_v10, A_main_v9]
theorem drive_apply : A_main_v26 x w v q a (ix4 l b d n)
    = Spec.drive (fx x) (fw w) (fv v) (fq q) b d n l := by
  unfold Spec.drive Spec.coefB Spec.proj
  rw [← soft_apply x w v q a]
  pointwise [A_main_v26, A_main_v24, A_main_v23, A_main_v22, A_main_v21, A_main_v20, A_main_v19, A_main_v18,
    A_main_v17, A_main_v2, A_main_v0]
theorem gain_apply : A_main_v27 x w v q a (ix3 l b n) = Spec.coefC (fx x) (fw w) b l n := by
  unfold Spec.coefC Spec.proj
  pointwise [A_main_v27, A_main_v3, A_main_v0]

/-- The recurrence starts at zero. -/
theorem zero_apply : (init x w v q a).main_v30_4 (ix3 b d n) = 0 := by
  show K_main_v28 (F := Ideal) (ix3 b d n) = 0
  pointwise [K_main_v28, K_main_cst]

/-- The result at coordinates is the selective scan's value. -/
theorem value_apply : R_main_v35 (iter (init x w v q a) 2048) x p (ix3 b l d)
    = Spec.value (fx x) (fw w) (fv v) (fq q) (fa a) (fq p) b l d := by
  have hrow := iter_row (init x w v q a) l b d (fun n => zero_apply x w v q a b d n) 2048 le_rfl l.isLt
  have hs : R_main_v35 (iter (init x w v q a) 2048) x p (ix3 b l d)
      = (iter (init x w v q a) 2048).main_v30_5 (ix3 l b d) + x (ix3 b l d) * p (ix1 d) := by
    generalize iter (init x w v q a) 2048 = s
    pointwise [R_main_v35]
  rw [hs, hrow]
  unfold Spec.value
  refine congrArg (fun t => t + x (ix3 b l d) * p (ix1 d)) (Finset.sum_congr rfl fun n _ => ?_)
  have hA : (fun l => (init x w v q a).main_v30_0 (ix4 l b d n)) = Spec.decay (fx x) (fw w) (fv v) (fq q) (fa a) b d n :=
    funext fun l => decay_apply x w v q a b l d n
  have hX : (fun l => (init x w v q a).main_v30_1 (ix4 l b d n)) = Spec.drive (fx x) (fw w) (fv v) (fq q) b d n :=
    funext fun l => drive_apply x w v q a b l d n
  have hC : (init x w v q a).main_v30_2 (ix3 l b n) = Spec.coefC (fx x) (fw w) b l n := gain_apply x w v q a b l n
  unfold entry
  rw [hC]
  exact congrArg (fun t => t * Spec.coefC (fx x) (fw w) b l n) (by rw [hA, hX])

end Cert.Proof.Ref

end
-- ==== Proof.Values.lean ====
/-
  The two programs' results are equal: from memories that agree on the arguments, under the precondition, each is the
  selective scan's value of the arguments.
-/
module

public import proofs.«01_k».proof.Defs
public import proofs.«01_k».proof.Proof.KernelSum
public import proofs.«01_k».proof.Proof.RefValue

@[expose] public section

noncomputable section

namespace Cert.Proof

open Idealize.ShloMosaic Idealize.ShloMosaic.TcCoe Idealize.SL.Sem

/-- The reference's result, where its arguments are the kernel's, is the kernel's. -/
theorem values_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hm : Cert.Pre_KernelIdeal_drawn m) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Step.R_main_v35 (Ref.iter (Ref.start m' c) 2048)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg5))
      = KernelIdeal.result m c := by
  obtain ⟨h0, h1, h2, h3, h4, h5⟩ := h
  funext y
  obtain ⟨b, l, d, rfl⟩ : ∃ (b : Fin 2) (l : Fin 2048) (d : Fin 1024), y = ix3 b l d := ⟨y 0, y 1, y 2, eq_ix3 y⟩
  have hq : ∀ d n, KernelIdeal.fa m c d n = Ideal.log (((n.val : ℝ) + 1 : ℝ) : EReal) :=
    fun d n => Drawn.rates _ _ _ _ _ _ (hm c).1 d n
  have hz : ∀ b l d, KernelIdeal.pre m c b l d ≤ ((30 * Real.log 2 : ℝ) : EReal) :=
    fun b l d => Drawn.bound _ _ _ _ _ _ (hm c).2 b l d
  rw [KernelIdeal.result_apply m c hq hz]
  refine (Ref.value_apply _ _ _ _ _ _ b l d).trans ?_
  rw [h0, h1, h2, h3, h4, h5]

end Cert.Proof

end
-- ==== Proof.lean ====
/-
  The certificate's claims: the frames of the kernel and of its idealization, the frame of the reference, the two named
  constants, and the equality of the two idealized programs' results under the precondition `drawn`.
-/
module

public import proofs.«01_k».proof.Defs
public import proofs.«01_k».proof.Proof.Gen.Kernel
public import proofs.«01_k».proof.Proof.Gen.KernelIdeal
public import proofs.«01_k».proof.Proof.Gen.Pre_drawn
public import proofs.«01_k».proof.Proof.Gen.ReferenceIdeal
public import proofs.«01_k».proof.Proof.KernelFrame
public import proofs.«01_k».proof.Proof.Values
public import Idealize.ShloMosaic.Lib.Quiescent

@[expose] public section

noncomputable section

namespace Cert.Proof

open Idealize.ShloMosaic Idealize.ShloMosaic.TcCoe Idealize.SL.Sem

/-- The kernel runs, its arguments unchanged and its counters at zero. -/
theorem kernel_frame : Cert.quiescent_Kernel := fun m g _ => Kernel.frame m g

/-- The idealized kernel runs, its arguments unchanged and its counters at zero, from every memory. -/
theorem ideal_frame : Cert.quiescent_KernelIdeal := fun m g _ =>
  (θ_run Cert.KernelIdeal.defs _ _).mono (fun _ h => ⟨fun c => (h.1 c).2, h.2⟩) (KernelIdeal.run m g)

/-- The reference runs, its arguments unchanged and its counters at zero, from every memory. -/
theorem reference_frame : Cert.quiescent_ReferenceIdeal := fun m g _ =>
  (θ_run Cert.ReferenceIdeal.defs _ _).mono
    (fun r h => ⟨fun c => (h c).2, sem_eq_zero_of_no_sems (by decide) r.2⟩) (Ref.run m g)

/-- The two named constants are what the table says. -/
theorem named : Cert.preserves_Kernel_KernelIdeal :=
  ⟨IdealRules.named_const.statement Cert.KernelIdeal.κ "log2e" .f32 _ _ rfl,
    IdealRules.named_const.statement Cert.KernelIdeal.κ "ln2" .f32 _ _ rfl⟩

/-- From memories that agree on the arguments, under the precondition, the idealized kernel and the reference end with
    equal results. -/
theorem equal : Cert.algebraic_KernelIdeal_ReferenceIdeal_pre_drawn := fun m g m' g' hm h =>
  ⟨fun c => KernelIdeal.result m c,
    (θ_run Cert.KernelIdeal.defs _ _).mono
      (fun _ hr c => ⟨((hr.1 c).1).trans (KernelIdeal.result_eq m c), (hr.1 c).2⟩) (KernelIdeal.run m g),
    (θ_run Cert.ReferenceIdeal.defs _ _).mono
      (fun _ hr c => ⟨((hr c).1).trans (values_eq m m' hm c (h c)), (hr c).2⟩) (Ref.run m' g')⟩

/-- Every claim of the certificate. -/
theorem claim : Cert.Claim :=
  ⟨Cert.Kernel.Gen.facts, Cert.KernelIdeal.Gen.facts, Cert.ReferenceIdeal.Gen.facts, Cert.Pre_drawn.Gen.facts,
    kernel_frame, ideal_frame, fun m g _ => ideal_frame m g trivial, reference_frame, fun m g _ => reference_frame m g trivial,
    named, equal⟩

end Cert.Proof

end
